-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x3584 : Shape := ⟨3, ![6, 256, 3584]⟩
abbrev S6x8x112 : Shape := ⟨3, ![6, 8, 112]⟩
abbrev S18944x3584 : Shape := ⟨2, ![18944, 3584]⟩
abbrev S592x112 : Shape := ⟨2, ![592, 112]⟩
abbrev S18944 : Shape := ⟨1, ![18944]⟩
abbrev S1536x3584 : Shape := ⟨2, ![1536, 3584]⟩
abbrev S48x112 : Shape := ⟨2, ![48, 112]⟩
abbrev S37x1x512 : Shape := ⟨3, ![37, 1, 512]⟩
abbrev S1536x18944 : Shape := ⟨2, ![1536, 18944]⟩
abbrev S48x640 : Shape := ⟨2, ![48, 640]⟩
abbrev S512x3584 : Shape := ⟨2, ![512, 3584]⟩
abbrev S16x112 : Shape := ⟨2, ![16, 112]⟩
abbrev S1x1x512 : Shape := ⟨3, ![1, 1, 512]⟩
abbrev S1536x512 : Shape := ⟨2, ![1536, 512]⟩
abbrev S48x16 : Shape := ⟨2, ![48, 16]⟩
abbrev S48x128 : Shape := ⟨2, ![48, 128]⟩
abbrev S48x128x1 : Shape := ⟨3, ![48, 128, 1]⟩
abbrev S32x128 : Shape := ⟨2, ![32, 128]⟩
abbrev S1x128 : Shape := ⟨2, ![1, 128]⟩
abbrev S16x16 : Shape := ⟨2, ![16, 16]⟩
abbrev S16x128 : Shape := ⟨2, ![16, 128]⟩
abbrev S16x128x1 : Shape := ⟨3, ![16, 128, 1]⟩
abbrev S256x3584 : Shape := ⟨2, ![256, 3584]⟩
abbrev S256x512 : Shape := ⟨2, ![256, 512]⟩
abbrev S1x512 : Shape := ⟨2, ![1, 512]⟩
abbrev S8x32x512 : Shape := ⟨3, ![8, 32, 512]⟩
abbrev S8x512 : Shape := ⟨2, ![8, 512]⟩
abbrev S8x128 : Shape := ⟨2, ![8, 128]⟩
abbrev S8x128x1 : Shape := ⟨3, ![8, 128, 1]⟩
abbrev S6x256x18944 : Shape := ⟨3, ![6, 256, 18944]⟩
abbrev S48x592 : Shape := ⟨2, ![48, 592]⟩
abbrev S6x8x592 : Shape := ⟨3, ![6, 8, 592]⟩

abbrev nBuf : Space → Nat
  | .hbm => 13
  | .vmem => 13
  | .smem => 0
  | _ => 0

abbrev bufTy : (tb : Table) → Fin (tcTables nBuf tb) → BufTy
  | .hbm, ⟨0, _⟩ => ⟨S6x256x3584, .i8⟩
  | .hbm, ⟨1, _⟩ => ⟨S6x8x112, .f32⟩
  | .hbm, ⟨2, _⟩ => ⟨S18944x3584, .i8⟩
  | .hbm, ⟨3, _⟩ => ⟨S592x112, .f32⟩
  | .hbm, ⟨4, _⟩ => ⟨S18944, .f32⟩
  | .hbm, ⟨5, _⟩ => ⟨S1536x3584, .i8⟩
  | .hbm, ⟨6, _⟩ => ⟨S48x112, .f32⟩
  | .hbm, ⟨7, _⟩ => ⟨S37x1x512, .f32⟩
  | .hbm, ⟨8, _⟩ => ⟨S1536x18944, .i8⟩
  | .hbm, ⟨9, _⟩ => ⟨S48x640, .f32⟩
  | .hbm, ⟨10, _⟩ => ⟨S6x256x18944, .i8⟩
  | .hbm, ⟨11, _⟩ => ⟨S48x592, .f32⟩
  | .hbm, ⟨12, _⟩ => ⟨S6x8x592, .f32⟩
  | .local _ .vmem, ⟨0, _⟩ => ⟨S1536x3584, .i8⟩
  | .local _ .vmem, ⟨1, _⟩ => ⟨S48x112, .f32⟩
  | .local _ .vmem, ⟨2, _⟩ => ⟨S512x3584, .i8⟩
  | .local _ .vmem, ⟨3, _⟩ => ⟨S512x3584, .i8⟩
  | .local _ .vmem, ⟨4, _⟩ => ⟨S16x112, .f32⟩
  | .local _ .vmem, ⟨5, _⟩ => ⟨S16x112, .f32⟩
  | .local _ .vmem, ⟨6, _⟩ => ⟨S1x1x512, .f32⟩
  | .local _ .vmem, ⟨7, _⟩ => ⟨S1x1x512, .f32⟩
  | .local _ .vmem, ⟨8, _⟩ => ⟨S1536x512, .i8⟩
  | .local _ .vmem, ⟨9, _⟩ => ⟨S1536x512, .i8⟩
  | .local _ .vmem, ⟨10, _⟩ => ⟨S48x640, .f32⟩
  | .local _ .vmem, ⟨11, _⟩ => ⟨S1536x3584, .bf16⟩
  | .local _ .vmem, ⟨12, _⟩ => ⟨S512x3584, .bf16⟩
  | _, _ => ⟨S6x256x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![37], ![false]⟩

def k0_mult1 (i : grid0.Coords) : BitVec 32 :=
  let arg0 : BitVec 32 := BitVec.ofNat 32 (i 0).val
  let c0_i32_2311 : BitVec 32 := 0#32
  let v6373 : BitVec 1 := Scalar.cmpi .sgt arg0 c0_i32_2311
  let v6374 : BitVec 32 := Scalar.extui v6373
  let c0_i32_2312 : BitVec 32 := 0#32
  let v6375 : BitVec 1 := Scalar.cmpi .slt arg0 c0_i32_2312
  let v6376 : BitVec 32 := Scalar.extui v6375
  let v6377 : BitVec 32 := Scalar.subi v6374 v6376
  let c8_i32_2310 : BitVec 32 := 8#32
  let c0_i32_2313 : BitVec 32 := 0#32
  let v6378 : BitVec 1 := Scalar.cmpi .sgt c8_i32_2310 c0_i32_2313
  let v6379 : BitVec 32 := Scalar.extui v6378
  let c0_i32_2314 : BitVec 32 := 0#32
  let v6380 : BitVec 1 := Scalar.cmpi .slt c8_i32_2310 c0_i32_2314
  let v6381 : BitVec 32 := Scalar.extui v6380
  let v6382 : BitVec 32 := Scalar.subi v6379 v6381
  let v6383 : BitVec 1 := Scalar.cmpi .ne v6377 v6382
  let v6384 : BitVec 32 := Scalar.remsi arg0 c8_i32_2310
  let c0_i32_2315 : BitVec 32 := 0#32
  let v6385 : BitVec 1 := Scalar.cmpi .ne v6384 c0_i32_2315
  let v6386 : BitVec 1 := Scalar.andi v6383 v6385
  let v6372 : BitVec 32 := Scalar.divsi arg0 c8_i32_2310
  let c1_i32_2316 : BitVec 32 := 1#32
  let v6387 : BitVec 32 := Scalar.subi v6372 c1_i32_2316
  let v6388 : BitVec 32 := Scalar.select v6386 v6387 v6372
  let c128_i32_2317 : BitVec 32 := 128#32
  let v6389 : BitVec 32 := Scalar.muli v6388 c128_i32_2317
  v6389
def k0_off1 (i : grid0.Coords) : Fin 2 → Nat :=
  let c0_2331 : Index := 0#32
  let arg0 : BitVec 32 := BitVec.ofNat 32 (i 0).val
  let c0_i32_2311 : BitVec 32 := 0#32
  let v6373 : BitVec 1 := Scalar.cmpi .sgt arg0 c0_i32_2311
  let v6374 : BitVec 32 := Scalar.extui v6373
  let c0_i32_2312 : BitVec 32 := 0#32
  let v6375 : BitVec 1 := Scalar.cmpi .slt arg0 c0_i32_2312
  let v6376 : BitVec 32 := Scalar.extui v6375
  let v6377 : BitVec 32 := Scalar.subi v6374 v6376
  let c8_i32_2310 : BitVec 32 := 8#32
  let c0_i32_2313 : BitVec 32 := 0#32
  let v6378 : BitVec 1 := Scalar.cmpi .sgt c8_i32_2310 c0_i32_2313
  let v6379 : BitVec 32 := Scalar.extui v6378
  let c0_i32_2314 : BitVec 32 := 0#32
  let v6380 : BitVec 1 := Scalar.cmpi .slt c8_i32_2310 c0_i32_2314
  let v6381 : BitVec 32 := Scalar.extui v6380
  let v6382 : BitVec 32 := Scalar.subi v6379 v6381
  let v6383 : BitVec 1 := Scalar.cmpi .ne v6377 v6382
  let v6384 : BitVec 32 := Scalar.remsi arg0 c8_i32_2310
  let c0_i32_2315 : BitVec 32 := 0#32
  let v6385 : BitVec 1 := Scalar.cmpi .ne v6384 c0_i32_2315
  let v6386 : BitVec 1 := Scalar.andi v6383 v6385
  let v6372 : BitVec 32 := Scalar.divsi arg0 c8_i32_2310
  let c1_i32_2316 : BitVec 32 := 1#32
  let v6387 : BitVec 32 := Scalar.subi v6372 c1_i32_2316
  let v6388 : BitVec 32 := Scalar.select v6386 v6387 v6372
  let c128_i32_2317 : BitVec 32 := 128#32
  let v6389 : BitVec 32 := Scalar.muli v6388 c128_i32_2317
  let v6390 : BitVec 32 := v6389
  let v6427 : Index := Scalar.indexCast v6390
  ![0, v6427.toNat]
def k0_mult2 (i : grid0.Coords) : BitVec 32 :=
  let arg0 : BitVec 32 := BitVec.ofNat 32 (i 0).val
  let c0_i32_2640 : BitVec 32 := 0#32
  let v7339 : BitVec 1 := Scalar.cmpi .sgt arg0 c0_i32_2640
  let v7340 : BitVec 32 := Scalar.extui v7339
  let c0_i32_2641 : BitVec 32 := 0#32
  let v7341 : BitVec 1 := Scalar.cmpi .slt arg0 c0_i32_2641
  let v7342 : BitVec 32 := Scalar.extui v7341
  let v7343 : BitVec 32 := Scalar.subi v7340 v7342
  let c8_i32_2639 : BitVec 32 := 8#32
  let c0_i32_2642 : BitVec 32 := 0#32
  let v7344 : BitVec 1 := Scalar.cmpi .sgt c8_i32_2639 c0_i32_2642
  let v7345 : BitVec 32 := Scalar.extui v7344
  let c0_i32_2643 : BitVec 32 := 0#32
  let v7346 : BitVec 1 := Scalar.cmpi .slt c8_i32_2639 c0_i32_2643
  let v7347 : BitVec 32 := Scalar.extui v7346
  let v7348 : BitVec 32 := Scalar.subi v7345 v7347
  let v7349 : BitVec 1 := Scalar.cmpi .ne v7343 v7348
  let v7350 : BitVec 32 := Scalar.remsi arg0 c8_i32_2639
  let c0_i32_2644 : BitVec 32 := 0#32
  let v7351 : BitVec 1 := Scalar.cmpi .ne v7350 c0_i32_2644
  let v7352 : BitVec 1 := Scalar.andi v7349 v7351
  let v7338 : BitVec 32 := Scalar.divsi arg0 c8_i32_2639
  let c1_i32_2645 : BitVec 32 := 1#32
  let v7353 : BitVec 32 := Scalar.subi v7338 c1_i32_2645
  let v7354 : BitVec 32 := Scalar.select v7352 v7353 v7338
  let c128_i32_2646 : BitVec 32 := 128#32
  let v7355 : BitVec 32 := Scalar.muli v7354 c128_i32_2646
  v7355
def k0_off2 (i : grid0.Coords) : Fin 2 → Nat :=
  let c8 : Index := 8#32
  let arg0 : BitVec 32 := BitVec.ofNat 32 (i 0).val
  let c0_i32_2640 : BitVec 32 := 0#32
  let v7339 : BitVec 1 := Scalar.cmpi .sgt arg0 c0_i32_2640
  let v7340 : BitVec 32 := Scalar.extui v7339
  let c0_i32_2641 : BitVec 32 := 0#32
  let v7341 : BitVec 1 := Scalar.cmpi .slt arg0 c0_i32_2641
  let v7342 : BitVec 32 := Scalar.extui v7341
  let v7343 : BitVec 32 := Scalar.subi v7340 v7342
  let c8_i32_2639 : BitVec 32 := 8#32
  let c0_i32_2642 : BitVec 32 := 0#32
  let v7344 : BitVec 1 := Scalar.cmpi .sgt c8_i32_2639 c0_i32_2642
  let v7345 : BitVec 32 := Scalar.extui v7344
  let c0_i32_2643 : BitVec 32 := 0#32
  let v7346 : BitVec 1 := Scalar.cmpi .slt c8_i32_2639 c0_i32_2643
  let v7347 : BitVec 32 := Scalar.extui v7346
  let v7348 : BitVec 32 := Scalar.subi v7345 v7347
  let v7349 : BitVec 1 := Scalar.cmpi .ne v7343 v7348
  let v7350 : BitVec 32 := Scalar.remsi arg0 c8_i32_2639
  let c0_i32_2644 : BitVec 32 := 0#32
  let v7351 : BitVec 1 := Scalar.cmpi .ne v7350 c0_i32_2644
  let v7352 : BitVec 1 := Scalar.andi v7349 v7351
  let v7338 : BitVec 32 := Scalar.divsi arg0 c8_i32_2639
  let c1_i32_2645 : BitVec 32 := 1#32
  let v7353 : BitVec 32 := Scalar.subi v7338 c1_i32_2645
  let v7354 : BitVec 32 := Scalar.select v7352 v7353 v7338
  let c128_i32_2646 : BitVec 32 := 128#32
  let v7355 : BitVec 32 := Scalar.muli v7354 c128_i32_2646
  let v7356 : BitVec 32 := v7355
  let v7393 : Index := Scalar.indexCast v7356
  ![8, v7393.toNat]
def k0_mult3 (i : grid0.Coords) : BitVec 32 :=
  let arg0 : BitVec 32 := BitVec.ofNat 32 (i 0).val
  let c0_i32_2962 : BitVec 32 := 0#32
  let v8305 : BitVec 1 := Scalar.cmpi .sgt arg0 c0_i32_2962
  let v8306 : BitVec 32 := Scalar.extui v8305
  let c0_i32_2963 : BitVec 32 := 0#32
  let v8307 : BitVec 1 := Scalar.cmpi .slt arg0 c0_i32_2963
  let v8308 : BitVec 32 := Scalar.extui v8307
  let v8309 : BitVec 32 := Scalar.subi v8306 v8308
  let c8_i32_2961 : BitVec 32 := 8#32
  let c0_i32_2964 : BitVec 32 := 0#32
  let v8310 : BitVec 1 := Scalar.cmpi .sgt c8_i32_2961 c0_i32_2964
  let v8311 : BitVec 32 := Scalar.extui v8310
  let c0_i32_2965 : BitVec 32 := 0#32
  let v8312 : BitVec 1 := Scalar.cmpi .slt c8_i32_2961 c0_i32_2965
  let v8313 : BitVec 32 := Scalar.extui v8312
  let v8314 : BitVec 32 := Scalar.subi v8311 v8313
  let v8315 : BitVec 1 := Scalar.cmpi .ne v8309 v8314
  let v8316 : BitVec 32 := Scalar.remsi arg0 c8_i32_2961
  let c0_i32_2966 : BitVec 32 := 0#32
  let v8317 : BitVec 1 := Scalar.cmpi .ne v8316 c0_i32_2966
  let v8318 : BitVec 1 := Scalar.andi v8315 v8317
  let v8304 : BitVec 32 := Scalar.divsi arg0 c8_i32_2961
  let c1_i32_2967 : BitVec 32 := 1#32
  let v8319 : BitVec 32 := Scalar.subi v8304 c1_i32_2967
  let v8320 : BitVec 32 := Scalar.select v8318 v8319 v8304
  let c128_i32_2968 : BitVec 32 := 128#32
  let v8321 : BitVec 32 := Scalar.muli v8320 c128_i32_2968
  v8321
def k0_off3 (i : grid0.Coords) : Fin 2 → Nat :=
  let c16 : Index := 16#32
  let arg0 : BitVec 32 := BitVec.ofNat 32 (i 0).val
  let c0_i32_2962 : BitVec 32 := 0#32
  let v8305 : BitVec 1 := Scalar.cmpi .sgt arg0 c0_i32_2962
  let v8306 : BitVec 32 := Scalar.extui v8305
  let c0_i32_2963 : BitVec 32 := 0#32
  let v8307 : BitVec 1 := Scalar.cmpi .slt arg0 c0_i32_2963
  let v8308 : BitVec 32 := Scalar.extui v8307
  let v8309 : BitVec 32 := Scalar.subi v8306 v8308
  let c8_i32_2961 : BitVec 32 := 8#32
  let c0_i32_2964 : BitVec 32 := 0#32
  let v8310 : BitVec 1 := Scalar.cmpi .sgt c8_i32_2961 c0_i32_2964
  let v8311 : BitVec 32 := Scalar.extui v8310
  let c0_i32_2965 : BitVec 32 := 0#32
  let v8312 : BitVec 1 := Scalar.cmpi .slt c8_i32_2961 c0_i32_2965
  let v8313 : BitVec 32 := Scalar.extui v8312
  let v8314 : BitVec 32 := Scalar.subi v8311 v8313
  let v8315 : BitVec 1 := Scalar.cmpi .ne v8309 v8314
  let v8316 : BitVec 32 := Scalar.remsi arg0 c8_i32_2961
  let c0_i32_2966 : BitVec 32 := 0#32
  let v8317 : BitVec 1 := Scalar.cmpi .ne v8316 c0_i32_2966
  let v8318 : BitVec 1 := Scalar.andi v8315 v8317
  let v8304 : BitVec 32 := Scalar.divsi arg0 c8_i32_2961
  let c1_i32_2967 : BitVec 32 := 1#32
  let v8319 : BitVec 32 := Scalar.subi v8304 c1_i32_2967
  let v8320 : BitVec 32 := Scalar.select v8318 v8319 v8304
  let c128_i32_2968 : BitVec 32 := 128#32
  let v8321 : BitVec 32 := Scalar.muli v8320 c128_i32_2968
  let v8322 : BitVec 32 := v8321
  let v8359 : Index := Scalar.indexCast v8322
  ![16, v8359.toNat]
def k0_mult4 (i : grid0.Coords) : BitVec 32 :=
  let arg0 : BitVec 32 := BitVec.ofNat 32 (i 0).val
  let c0_i32_3284 : BitVec 32 := 0#32
  let v9271 : BitVec 1 := Scalar.cmpi .sgt arg0 c0_i32_3284
  let v9272 : BitVec 32 := Scalar.extui v9271
  let c0_i32_3285 : BitVec 32 := 0#32
  let v9273 : BitVec 1 := Scalar.cmpi .slt arg0 c0_i32_3285
  let v9274 : BitVec 32 := Scalar.extui v9273
  let v9275 : BitVec 32 := Scalar.subi v9272 v9274
  let c8_i32_3283 : BitVec 32 := 8#32
  let c0_i32_3286 : BitVec 32 := 0#32
  let v9276 : BitVec 1 := Scalar.cmpi .sgt c8_i32_3283 c0_i32_3286
  let v9277 : BitVec 32 := Scalar.extui v9276
  let c0_i32_3287 : BitVec 32 := 0#32
  let v9278 : BitVec 1 := Scalar.cmpi .slt c8_i32_3283 c0_i32_3287
  let v9279 : BitVec 32 := Scalar.extui v9278
  let v9280 : BitVec 32 := Scalar.subi v9277 v9279
  let v9281 : BitVec 1 := Scalar.cmpi .ne v9275 v9280
  let v9282 : BitVec 32 := Scalar.remsi arg0 c8_i32_3283
  let c0_i32_3288 : BitVec 32 := 0#32
  let v9283 : BitVec 1 := Scalar.cmpi .ne v9282 c0_i32_3288
  let v9284 : BitVec 1 := Scalar.andi v9281 v9283
  let v9270 : BitVec 32 := Scalar.divsi arg0 c8_i32_3283
  let c1_i32_3289 : BitVec 32 := 1#32
  let v9285 : BitVec 32 := Scalar.subi v9270 c1_i32_3289
  let v9286 : BitVec 32 := Scalar.select v9284 v9285 v9270
  let c128_i32_3290 : BitVec 32 := 128#32
  let v9287 : BitVec 32 := Scalar.muli v9286 c128_i32_3290
  v9287
def k0_off4 (i : grid0.Coords) : Fin 2 → Nat :=
  let c24 : Index := 24#32
  let arg0 : BitVec 32 := BitVec.ofNat 32 (i 0).val
  let c0_i32_3284 : BitVec 32 := 0#32
  let v9271 : BitVec 1 := Scalar.cmpi .sgt arg0 c0_i32_3284
  let v9272 : BitVec 32 := Scalar.extui v9271
  let c0_i32_3285 : BitVec 32 := 0#32
  let v9273 : BitVec 1 := Scalar.cmpi .slt arg0 c0_i32_3285
  let v9274 : BitVec 32 := Scalar.extui v9273
  let v9275 : BitVec 32 := Scalar.subi v9272 v9274
  let c8_i32_3283 : BitVec 32 := 8#32
  let c0_i32_3286 : BitVec 32 := 0#32
  let v9276 : BitVec 1 := Scalar.cmpi .sgt c8_i32_3283 c0_i32_3286
  let v9277 : BitVec 32 := Scalar.extui v9276
  let c0_i32_3287 : BitVec 32 := 0#32
  let v9278 : BitVec 1 := Scalar.cmpi .slt c8_i32_3283 c0_i32_3287
  let v9279 : BitVec 32 := Scalar.extui v9278
  let v9280 : BitVec 32 := Scalar.subi v9277 v9279
  let v9281 : BitVec 1 := Scalar.cmpi .ne v9275 v9280
  let v9282 : BitVec 32 := Scalar.remsi arg0 c8_i32_3283
  let c0_i32_3288 : BitVec 32 := 0#32
  let v9283 : BitVec 1 := Scalar.cmpi .ne v9282 c0_i32_3288
  let v9284 : BitVec 1 := Scalar.andi v9281 v9283
  let v9270 : BitVec 32 := Scalar.divsi arg0 c8_i32_3283
  let c1_i32_3289 : BitVec 32 := 1#32
  let v9285 : BitVec 32 := Scalar.subi v9270 c1_i32_3289
  let v9286 : BitVec 32 := Scalar.select v9284 v9285 v9270
  let c128_i32_3290 : BitVec 32 := 128#32
  let v9287 : BitVec 32 := Scalar.muli v9286 c128_i32_3290
  let v9288 : BitVec 32 := v9287
  let v9325 : Index := Scalar.indexCast v9288
  ![24, v9325.toNat]
def k0_mult5 (i : grid0.Coords) : BitVec 32 :=
  let arg0 : BitVec 32 := BitVec.ofNat 32 (i 0).val
  let c0_i32_3606 : BitVec 32 := 0#32
  let v10237 : BitVec 1 := Scalar.cmpi .sgt arg0 c0_i32_3606
  let v10238 : BitVec 32 := Scalar.extui v10237
  let c0_i32_3607 : BitVec 32 := 0#32
  let v10239 : BitVec 1 := Scalar.cmpi .slt arg0 c0_i32_3607
  let v10240 : BitVec 32 := Scalar.extui v10239
  let v10241 : BitVec 32 := Scalar.subi v10238 v10240
  let c8_i32_3605 : BitVec 32 := 8#32
  let c0_i32_3608 : BitVec 32 := 0#32
  let v10242 : BitVec 1 := Scalar.cmpi .sgt c8_i32_3605 c0_i32_3608
  let v10243 : BitVec 32 := Scalar.extui v10242
  let c0_i32_3609 : BitVec 32 := 0#32
  let v10244 : BitVec 1 := Scalar.cmpi .slt c8_i32_3605 c0_i32_3609
  let v10245 : BitVec 32 := Scalar.extui v10244
  let v10246 : BitVec 32 := Scalar.subi v10243 v10245
  let v10247 : BitVec 1 := Scalar.cmpi .ne v10241 v10246
  let v10248 : BitVec 32 := Scalar.remsi arg0 c8_i32_3605
  let c0_i32_3610 : BitVec 32 := 0#32
  let v10249 : BitVec 1 := Scalar.cmpi .ne v10248 c0_i32_3610
  let v10250 : BitVec 1 := Scalar.andi v10247 v10249
  let v10236 : BitVec 32 := Scalar.divsi arg0 c8_i32_3605
  let c1_i32_3611 : BitVec 32 := 1#32
  let v10251 : BitVec 32 := Scalar.subi v10236 c1_i32_3611
  let v10252 : BitVec 32 := Scalar.select v10250 v10251 v10236
  let c128_i32_3612 : BitVec 32 := 128#32
  let v10253 : BitVec 32 := Scalar.muli v10252 c128_i32_3612
  v10253
def k0_off5 (i : grid0.Coords) : Fin 2 → Nat :=
  let c32_3626 : Index := 32#32
  let arg0 : BitVec 32 := BitVec.ofNat 32 (i 0).val
  let c0_i32_3606 : BitVec 32 := 0#32
  let v10237 : BitVec 1 := Scalar.cmpi .sgt arg0 c0_i32_3606
  let v10238 : BitVec 32 := Scalar.extui v10237
  let c0_i32_3607 : BitVec 32 := 0#32
  let v10239 : BitVec 1 := Scalar.cmpi .slt arg0 c0_i32_3607
  let v10240 : BitVec 32 := Scalar.extui v10239
  let v10241 : BitVec 32 := Scalar.subi v10238 v10240
  let c8_i32_3605 : BitVec 32 := 8#32
  let c0_i32_3608 : BitVec 32 := 0#32
  let v10242 : BitVec 1 := Scalar.cmpi .sgt c8_i32_3605 c0_i32_3608
  let v10243 : BitVec 32 := Scalar.extui v10242
  let c0_i32_3609 : BitVec 32 := 0#32
  let v10244 : BitVec 1 := Scalar.cmpi .slt c8_i32_3605 c0_i32_3609
  let v10245 : BitVec 32 := Scalar.extui v10244
  let v10246 : BitVec 32 := Scalar.subi v10243 v10245
  let v10247 : BitVec 1 := Scalar.cmpi .ne v10241 v10246
  let v10248 : BitVec 32 := Scalar.remsi arg0 c8_i32_3605
  let c0_i32_3610 : BitVec 32 := 0#32
  let v10249 : BitVec 1 := Scalar.cmpi .ne v10248 c0_i32_3610
  let v10250 : BitVec 1 := Scalar.andi v10247 v10249
  let v10236 : BitVec 32 := Scalar.divsi arg0 c8_i32_3605
  let c1_i32_3611 : BitVec 32 := 1#32
  let v10251 : BitVec 32 := Scalar.subi v10236 c1_i32_3611
  let v10252 : BitVec 32 := Scalar.select v10250 v10251 v10236
  let c128_i32_3612 : BitVec 32 := 128#32
  let v10253 : BitVec 32 := Scalar.muli v10252 c128_i32_3612
  let v10254 : BitVec 32 := v10253
  let v10291 : Index := Scalar.indexCast v10254
  ![32, v10291.toNat]
def k0_mult6 (i : grid0.Coords) : BitVec 32 :=
  let arg0 : BitVec 32 := BitVec.ofNat 32 (i 0).val
  let c0_i32_3929 : BitVec 32 := 0#32
  let v11203 : BitVec 1 := Scalar.cmpi .sgt arg0 c0_i32_3929
  let v11204 : BitVec 32 := Scalar.extui v11203
  let c0_i32_3930 : BitVec 32 := 0#32
  let v11205 : BitVec 1 := Scalar.cmpi .slt arg0 c0_i32_3930
  let v11206 : BitVec 32 := Scalar.extui v11205
  let v11207 : BitVec 32 := Scalar.subi v11204 v11206
  let c8_i32_3928 : BitVec 32 := 8#32
  let c0_i32_3931 : BitVec 32 := 0#32
  let v11208 : BitVec 1 := Scalar.cmpi .sgt c8_i32_3928 c0_i32_3931
  let v11209 : BitVec 32 := Scalar.extui v11208
  let c0_i32_3932 : BitVec 32 := 0#32
  let v11210 : BitVec 1 := Scalar.cmpi .slt c8_i32_3928 c0_i32_3932
  let v11211 : BitVec 32 := Scalar.extui v11210
  let v11212 : BitVec 32 := Scalar.subi v11209 v11211
  let v11213 : BitVec 1 := Scalar.cmpi .ne v11207 v11212
  let v11214 : BitVec 32 := Scalar.remsi arg0 c8_i32_3928
  let c0_i32_3933 : BitVec 32 := 0#32
  let v11215 : BitVec 1 := Scalar.cmpi .ne v11214 c0_i32_3933
  let v11216 : BitVec 1 := Scalar.andi v11213 v11215
  let v11202 : BitVec 32 := Scalar.divsi arg0 c8_i32_3928
  let c1_i32_3934 : BitVec 32 := 1#32
  let v11217 : BitVec 32 := Scalar.subi v11202 c1_i32_3934
  let v11218 : BitVec 32 := Scalar.select v11216 v11217 v11202
  let c128_i32_3935 : BitVec 32 := 128#32
  let v11219 : BitVec 32 := Scalar.muli v11218 c128_i32_3935
  v11219
def k0_off6 (i : grid0.Coords) : Fin 2 → Nat :=
  let c40 : Index := 40#32
  let arg0 : BitVec 32 := BitVec.ofNat 32 (i 0).val
  let c0_i32_3929 : BitVec 32 := 0#32
  let v11203 : BitVec 1 := Scalar.cmpi .sgt arg0 c0_i32_3929
  let v11204 : BitVec 32 := Scalar.extui v11203
  let c0_i32_3930 : BitVec 32 := 0#32
  let v11205 : BitVec 1 := Scalar.cmpi .slt arg0 c0_i32_3930
  let v11206 : BitVec 32 := Scalar.extui v11205
  let v11207 : BitVec 32 := Scalar.subi v11204 v11206
  let c8_i32_3928 : BitVec 32 := 8#32
  let c0_i32_3931 : BitVec 32 := 0#32
  let v11208 : BitVec 1 := Scalar.cmpi .sgt c8_i32_3928 c0_i32_3931
  let v11209 : BitVec 32 := Scalar.extui v11208
  let c0_i32_3932 : BitVec 32 := 0#32
  let v11210 : BitVec 1 := Scalar.cmpi .slt c8_i32_3928 c0_i32_3932
  let v11211 : BitVec 32 := Scalar.extui v11210
  let v11212 : BitVec 32 := Scalar.subi v11209 v11211
  let v11213 : BitVec 1 := Scalar.cmpi .ne v11207 v11212
  let v11214 : BitVec 32 := Scalar.remsi arg0 c8_i32_3928
  let c0_i32_3933 : BitVec 32 := 0#32
  let v11215 : BitVec 1 := Scalar.cmpi .ne v11214 c0_i32_3933
  let v11216 : BitVec 1 := Scalar.andi v11213 v11215
  let v11202 : BitVec 32 := Scalar.divsi arg0 c8_i32_3928
  let c1_i32_3934 : BitVec 32 := 1#32
  let v11217 : BitVec 32 := Scalar.subi v11202 c1_i32_3934
  let v11218 : BitVec 32 := Scalar.select v11216 v11217 v11202
  let c128_i32_3935 : BitVec 32 := 128#32
  let v11219 : BitVec 32 := Scalar.muli v11218 c128_i32_3935
  let v11220 : BitVec 32 := v11219
  let v11257 : Index := Scalar.indexCast v11220
  ![40, v11257.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x112 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S48x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S6x256x3584 : Shape := ⟨3, ![6, 256, 3584]⟩
abbrev S6x8x112 : Shape := ⟨3, ![6, 8, 112]⟩
abbrev S18944x3584 : Shape := ⟨2, ![18944, 3584]⟩
abbrev S592x112 : Shape := ⟨2, ![592, 112]⟩
abbrev S18944 : Shape := ⟨1, ![18944]⟩
abbrev S6x256x18944 : Shape := ⟨3, ![6, 256, 18944]⟩
abbrev S6x8x592 : Shape := ⟨3, ![6, 8, 592]⟩
abbrev S6x8x32x112x32 : Shape := ⟨5, ![6, 8, 32, 112, 32]⟩
abbrev S6x8x1x112x1 : Shape := ⟨5, ![6, 8, 1, 112, 1]⟩
abbrev S592x32x112x32 : Shape := ⟨4, ![592, 32, 112, 32]⟩
abbrev S592x1x112x1 : Shape := ⟨4, ![592, 1, 112, 1]⟩
abbrev S1x1x18944 : Shape := ⟨3, ![1, 1, 18944]⟩
abbrev S6x8x32x592x32 : Shape := ⟨5, ![6, 8, 32, 592, 32]⟩
abbrev S6x8x1x592x1 : Shape := ⟨5, ![6, 8, 1, 592, 1]⟩

abbrev nBuf : Space → Nat
  | .hbm => 7
  | .vmem => 7
  | .smem => 0
  | _ => 0

abbrev bufTy : (tb : Table) → Fin (tcTables nBuf tb) → BufTy
  | .hbm, ⟨0, _⟩ => ⟨S6x256x3584, .i8⟩
  | .hbm, ⟨1, _⟩ => ⟨S6x8x112, .f32⟩
  | .hbm, ⟨2, _⟩ => ⟨S18944x3584, .i8⟩
  | .hbm, ⟨3, _⟩ => ⟨S592x112, .f32⟩
  | .hbm, ⟨4, _⟩ => ⟨S18944, .f32⟩
  | .hbm, ⟨5, _⟩ => ⟨S6x256x18944, .i8⟩
  | .hbm, ⟨6, _⟩ => ⟨S6x8x592, .f32⟩
  | .local _ .vmem, ⟨0, _⟩ => ⟨S6x256x3584, .i8⟩
  | .local _ .vmem, ⟨1, _⟩ => ⟨S6x8x112, .f32⟩
  | .local _ .vmem, ⟨2, _⟩ => ⟨S18944x3584, .i8⟩
  | .local _ .vmem, ⟨3, _⟩ => ⟨S592x112, .f32⟩
  | .local _ .vmem, ⟨4, _⟩ => ⟨S18944, .f32⟩
  | .local _ .vmem, ⟨5, _⟩ => ⟨S6x256x18944, .i8⟩
  | .local _ .vmem, ⟨6, _⟩ => ⟨S6x8x592, .f32⟩
  | _, _ => ⟨S6x256x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x256x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S592x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x18944 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x8x592 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Roll.lean ====
/- The kernel's body in rolled form: the printed body is one long unrolled run of memory operations; here the same
   operations are written as three nested repetitions (lane tiles of row blocks for the two dequantisations, row tiles of
   lane tiles of row blocks for the product and its quantisation), each over named pure values. -/
module

public import proofs.«01_k».proof.KernelIdeal

@[expose] public section

noncomputable section

namespace Cert.KernelIdeal.Roll

open Idealize.ShloMosaic Idealize.SL.Sem
open Shapes1.Facts₀ Shapes2.Facts₀ Shapes3.Facts₀ Shapes4.Facts₀ Shapes5.Facts₀

/-- `f s`, `f (s+1)`, …, `f (s+n-1)` in turn, then `K`; the indices stay below `N`. -/
def rep {α : Type 1} (N : ℕ) (f : (k : ℕ) → k < N → α → α) (n : ℕ) : (s : ℕ) → s + n ≤ N → α → α :=
  Nat.rec (motive := fun n => (s : ℕ) → s + n ≤ N → α → α) (fun _ _ K => K)
    (fun n ih s h K => f s (by omega) (ih (s + 1) (by omega) K)) n

/-! ## Pure values -/

section Int
variable {s : Shape}

/-- Floor division of lane numbers by a constant, as the kernel spells it. -/
def fdiv (x : IVec s 32) (d : BitVec 32) (h : 1 < 32) : IVec s 32 :=
  select (andi (cmpi .ne (subi (extui 32 (cmpi .sgt x (broadcast s 0#32)) h) (extui 32 (cmpi .slt x (broadcast s 0#32)) h))
      (broadcast s (Scalar.subi (Scalar.extui (Scalar.cmpi .sgt d 0#32)) (Scalar.extui (Scalar.cmpi .slt d 0#32)))))
      (cmpi .ne (remsi x (broadcast s d)) (broadcast s 0#32)))
    (subi (divsi x (broadcast s d)) (broadcast s 1#32)) (divsi x (broadcast s d))

/-- Remainder of lane numbers by a constant, as the kernel spells it. -/
def fmod (x : IVec s 32) (d : BitVec 32) (h : s.Broadcasts s) : IVec s 32 :=
  let d' : BitVec 32 := Scalar.select (Scalar.cmpi .eq d 0#32) 1#32 d
  let r : IVec s 32 := remsi x (broadcast s d')
  select (andi (xori (cmpi .slt r (broadcast s 0#32)) (broadcastTo s (broadcast s (Scalar.cmpi .slt d' 0#32)) h))
      (cmpi .ne r (broadcast s 0#32)))
    (addi r (broadcast s d')) r

/-- A negative lane number counts from the end. -/
def wrap (x : IVec s 32) : IVec s 32 :=
  select (cmpi .slt x (broadcast s 0#32)) (addi x (broadcast s 128#32)) x

end Int

variable {F : FTy → Type} [FloatOps F] [Facts]

/-- The scales of the rows of `x`, padded to 128 columns. -/
def padX (v : Vec F S48x112 .f32) : FVec F S48x128 .f32 :=
  concatenate S48x128 1 [⟨S48x112, shapeCast S48x112 v shapeCasts_S48x112_S48x112⟩,
    ⟨S48x16, broadcast S48x16 (Scalar.sitofp .f32 (0#32 : BitVec 32))⟩] concatenates_S48x112_S48x16_S48x128_d1

/-- The scales of lane tile `lt`, one per lane. -/
def expX (xs : FVec F S48x128 .f32) (lt : ℕ) : FVec F S48x128 .f32 :=
  dynamicGather 1 xs (shapeCast S48x128 (shapeCast S48x128x1 (wrap (addi (broadcast S48x128 (BitVec.ofNat 32 (4 * lt)))
    (fdiv (iota .tc S48x128 32 [1] iota_S48x128_d1_w32) 32#32 natLt_1_32))) shapeCasts_S48x128_S48x128x1) shapeCasts_S48x128x1_S48x128)

/-- The scales of the rows of a tile of `w`, padded to 128 columns. -/
def padW (v : Vec F S16x112 .f32) : FVec F S16x128 .f32 :=
  concatenate S16x128 1 [⟨S16x112, v⟩,
    ⟨S16x16, broadcast S16x16 (Scalar.sitofp .f32 (0#32 : BitVec 32))⟩] concatenates_S16x112_S16x16_S16x128_d1

/-- The scales of lane tile `lt`, one per lane. -/
def expW (ws : FVec F S16x128 .f32) (lt : ℕ) : FVec F S16x128 .f32 :=
  dynamicGather 1 ws (shapeCast S16x128 (shapeCast S16x128x1 (wrap (addi (broadcast S16x128 (BitVec.ofNat 32 (4 * lt)))
    (fdiv (iota .tc S16x128 32 [1] iota_S16x128_d1_w32) 32#32 natLt_1_32))) shapeCasts_S16x128_S16x128x1) shapeCasts_S16x128x1_S16x128)

/-- A block of 32 × 128 codes times its row of scales. -/
def dq (codes : IVec S32x128 8) (row : FVec F S1x128 .f32) : FVec F S32x128 .bf16 :=
  mulf (sitofp .bf16 codes) (truncf .bf16 (broadcastTo S32x128 (shapeCast S1x128 row shapeCasts_S1x128_S1x128)
    broadcasts_S1x128_S32x128) bitsLt_bf16_f32)

theorem inbX {rb lt : ℕ} (hr : rb < 48) (hl : lt < 28) :
    ∀ a, (![32 * rb, 128 * lt] : Fin 2 → Nat) a + S32x128.size a ≤ S1536x3584.size a :=
  Rect.inb₂ (by show 32 * rb + 32 ≤ 1536; omega) (by show 128 * lt + 128 ≤ 3584; omega)
theorem inbW {rb lt : ℕ} (hr : rb < 16) (hl : lt < 28) :
    ∀ a, (![32 * rb, 128 * lt] : Fin 2 → Nat) a + S32x128.size a ≤ S512x3584.size a :=
  Rect.inb₂ (by show 32 * rb + 32 ≤ 512; omega) (by show 128 * lt + 128 ≤ 3584; omega)
theorem packed2 {d : Fin 2 → Nat} {p b : Nat} (r : Rect ⟨2, d⟩) (hp : p = 2) (ho : r.off 0 = b) (hs : r.size 0 = 32) (ht : r.stride 0 = 1)
    (h : 2 ∣ b) : r.PackedRows p := by
  subst hp
  have h1 : 2 ∣ r.off 0 := by rw [ho]; exact h
  have h2 : 2 ∣ r.size 0 := by rw [hs]; decide
  exact .inr ⟨(by decide : 2 ≤ 2), ht, .inl ⟨h1, h2⟩⟩
theorem packX {rb lt : ℕ} (hr : rb < 48) (hl : lt < 28) :
    (Rect.unit (s := S1536x3584) ![32 * rb, 128 * lt] S32x128.size (inbX hr hl)).PackedRows (EltTy.packing .bf16) :=
  packed2 _ rfl (b := 32 * rb) rfl rfl rfl ⟨16 * rb, by omega⟩
theorem packW {rb lt : ℕ} (hr : rb < 16) (hl : lt < 28) :
    (Rect.unit (s := S512x3584) ![32 * rb, 128 * lt] S32x128.size (inbW hr hl)).PackedRows (EltTy.packing .bf16) :=
  packed2 _ rfl (b := 32 * rb) rfl rfl rfl ⟨16 * rb, by omega⟩
theorem sliceX {rb : ℕ} (hr : rb < 48) : S48x128.Slices ![rb, 0] S1x128 :=
  ⟨rfl, Fin.forall_fin_two.2 ⟨by show rb + 1 ≤ 48; omega, by show 0 + 128 ≤ 128; omega⟩⟩
theorem sliceW {rb : ℕ} (hr : rb < 16) : S16x128.Slices ![rb, 0] S1x128 :=
  ⟨rfl, Fin.forall_fin_two.2 ⟨by show rb + 1 ≤ 16; omega, by show 0 + 128 ≤ 128; omega⟩⟩

/-! ## The dequantisations -/

section Units

variable (arg1 : Memref sig .tc .vmem S1536x3584 .i8) (arg3 : Memref sig .tc .vmem S512x3584 .i8)
  (arg8 : Memref sig .tc .vmem S1536x3584 .bf16) (harg8 : arg8.IsWhole)
  (arg9 : Memref sig .tc .vmem S512x3584 .bf16) (harg9 : arg9.IsWhole)

/-- One block of `x`: read the codes, write the block of the dequantised array. -/
def unitX {α : Type} (e : FVec F S48x128 .f32) (lt : ℕ) (hl : lt < 28) (rb : ℕ) (hr : rb < 48)
    (K : Prog (TpuEff nD τ sig (Elt F) Λ₀ .tc) α) : Prog (TpuEff nD τ sig (Elt F) Λ₀ .tc) α :=
  .op (.load arg1 (Rect.unit (s := S1536x3584) ![32 * rb, 128 * lt] S32x128.size (inbX hr hl)).toLoadRect (View.loadsAt_vmem h_S32x128))
    fun (v : Vec F S32x128 .i8) =>
  .op (.load arg8 (Rect.unit (s := S1536x3584) ![32 * rb, 128 * lt] S32x128.size (inbX hr hl)).toLoadRect (View.loadsAt_vmem h_S32x128))
    fun _ =>
  .op (.store arg8 (Rect.unit (s := S1536x3584) ![32 * rb, 128 * lt] S32x128.size (inbX hr hl))
      (shapeCast S32x128 (dq (shapeCast S32x128 v shapeCasts_S32x128_S32x128)
        (extractStridedSlice S1x128 ![rb, 0] e (sliceX hr))) shapeCasts_S32x128_S32x128)
      Finset.univ (View.stores_vmem h_S32x128 (harg8.storeExact_slice rfl _ (packX hr hl)) (fun _ => rfl)) (.inl rfl))
    fun _ => K

/-- All blocks of `x`, lane tile by lane tile. -/
def rollX {α : Type} (xs : FVec F S48x128 .f32) (K : Prog (TpuEff nD τ sig (Elt F) Λ₀ .tc) α) :
    Prog (TpuEff nD τ sig (Elt F) Λ₀ .tc) α :=
  rep 28 (fun lt hl => rep 48 (unitX arg1 arg8 harg8 (expX xs lt) lt hl) 48 0 (by omega)) 28 0 (by omega) K

/-- One block of a tile of `w`: read the codes, write the block of the dequantised array. -/
def unitW (e : FVec F S16x128 .f32) (lt : ℕ) (hl : lt < 28) (rb : ℕ) (hr : rb < 16)
    (K : Prog (TpuEff nD τ sig (Elt F) Λ₀ .tc) PUnit) : Prog (TpuEff nD τ sig (Elt F) Λ₀ .tc) PUnit :=
  .op (.load arg3 (Rect.unit (s := S512x3584) ![32 * rb, 128 * lt] S32x128.size (inbW hr hl)).toLoadRect (View.loadsAt_vmem h_S32x128))
    fun (v : Vec F S32x128 .i8) =>
  .op (.load arg9 (Rect.unit (s := S512x3584) ![32 * rb, 128 * lt] S32x128.size (inbW hr hl)).toLoadRect (View.loadsAt_vmem h_S32x128))
    fun _ =>
  .op (.store arg9 (Rect.unit (s := S512x3584) ![32 * rb, 128 * lt] S32x128.size (inbW hr hl))
      (shapeCast S32x128 (dq v (extractStridedSlice S1x128 ![rb, 0] e (sliceW hr))) shapeCasts_S32x128_S32x128)
      Finset.univ (View.stores_vmem h_S32x128 (harg9.storeExact_slice rfl _ (packW hr hl)) (fun _ => rfl)) (.inl rfl))
    fun _ => K

/-- All blocks of a tile of `w`, lane tile by lane tile. -/
def rollW (ws : FVec F S16x128 .f32) (K : Prog (TpuEff nD τ sig (Elt F) Λ₀ .tc) PUnit) :
    Prog (TpuEff nD τ sig (Elt F) Λ₀ .tc) PUnit :=
  rep 28 (fun lt hl => rep 16 (unitW arg3 arg9 harg9 (expW ws lt) lt hl) 16 0 (by omega)) 28 0 (by omega) K

end Units

/-! ## The product, its activation and its quantisation -/

/-- Row tile of the product plus the bias, through the activation. -/
def zM (xb : Vec F S256x3584 .bf16) (wb : Vec F S512x3584 .bf16) (b : Vec F S1x1x512 .f32) : FVec F S256x512 .f32 :=
  let y : FVec F S256x512 .f32 := addf
    (matmul dot_S256x3584_S512x3584_S256x512_1_1_0_0_n_n none xb wb (constant S256x512 .f32 0x00000000#32))
    (broadcastTo S256x512 (shapeCast S1x512 b shapeCasts_S1x1x512_S1x512) broadcasts_S1x512_S256x512)
  mulf y (mulf (broadcast S256x512 (Scalar.ofBits .f32 0x3F000000#32))
    (addf (broadcast S256x512 (Scalar.ofBits .f32 0x3F800000#32))
      (tanh (mulf (broadcast S256x512 (Scalar.ofBits .f32 0x3F4C422A#32))
        (addf y (mulf (broadcast S256x512 (Scalar.ofBits .f32 0x3D372713#32)) (mulf y (mulf y y))))))))

/-- The largest magnitude over each 32 rows, column by column. -/
def rowMax (z : FVec F S256x512 .f32) : FVec F S8x512 .f32 :=
  multiReduction .maximumf [1] S8x512 (shapeCast S8x32x512 (absf z) shapeCasts_S256x512_S8x32x512) 0xFF800000#32
    reduces_S8x32x512_S8x512 (.inl rfl) rfl

/-- Lane numbers of an 8 × 128 tile. -/
def lane8 : IVec S8x128 32 := iota .tc S8x128 32 [1] iota_S8x128_d1_w32

/-- The lanes of `v` taken at the positions `x`. -/
def take8 (v : FVec F S8x128 .f32) (x : IVec S8x128 32) : FVec F S8x128 .f32 :=
  dynamicGather 1 v (shapeCast S8x128 (shapeCast S8x128x1 (wrap x) shapeCasts_S8x128_S8x128x1) shapeCasts_S8x128x1_S8x128)

/-- One step of the butterfly maximum: with the lane at distance `d`. -/
def bfly (d : BitVec 32) (v : FVec F S8x128 .f32) : FVec F S8x128 .f32 :=
  maximumf v (take8 v (xori lane8 (broadcast S8x128 d)))

/-- The maximum over each 32 lanes. -/
def segMax (v : FVec F S8x128 .f32) : FVec F S8x128 .f32 :=
  bfly 16#32 (bfly 8#32 (bfly 4#32 (bfly 2#32 (bfly 1#32 v))))

/-- The scale of each block, at every lane of it. -/
def scaleOf (a : FVec F S8x128 .f32) : FVec F S8x128 .f32 :=
  select (cmpf .oeq a (broadcast S8x128 (Scalar.ofBits .f32 0x00000000#32)))
    (broadcast S8x128 (Scalar.ofBits .f32 0x3F800000#32))
    (divf a (broadcast S8x128 (Scalar.ofBits .f32 0x42FE0000#32)))

theorem sliceZ {rb t : ℕ} (hr : rb < 8) (ht : t < 4) : S256x512.Slices ![32 * rb, 128 * t] S32x128 :=
  ⟨rfl, Fin.forall_fin_two.2 ⟨by show 32 * rb + 32 ≤ 256; omega, by show 128 * t + 128 ≤ 512; omega⟩⟩
theorem sliceA {t : ℕ} (ht : t < 4) : S8x512.Slices ![0, 128 * t] S8x128 :=
  ⟨rfl, Fin.forall_fin_two.2 ⟨by show 0 + 8 ≤ 8; omega, by show 128 * t + 128 ≤ 512; omega⟩⟩
theorem sliceS {rb : ℕ} (hr : rb < 8) : S8x128.Slices ![rb, 0] S1x128 :=
  ⟨rfl, Fin.forall_fin_two.2 ⟨by show rb + 1 ≤ 8; omega, by show 0 + 128 ≤ 128; omega⟩⟩

/-- The scales of lane tile `t`. -/
def scT (a : FVec F S8x512 .f32) (t : ℕ) (ht : t < 4) : FVec F S8x128 .f32 :=
  scaleOf (segMax (extractStridedSlice S8x128 ![0, 128 * t] a (sliceA ht)))

/-- The codes of one block. -/
def codesOf (z : FVec F S256x512 .f32) (sc : FVec F S8x128 .f32) (t : ℕ) (ht : t < 4) (rb : ℕ) (hr : rb < 8) : IVec S32x128 8 :=
  fptosi 8 (minimumf (broadcast S32x128 (Scalar.ofBits .f32 0x42FE0000#32))
    (maximumf (broadcast S32x128 (Scalar.ofBits .f32 0xC2FE0000#32))
      (roundeven (divf (extractStridedSlice S32x128 ![32 * rb, 128 * t] z (sliceZ hr ht))
        (broadcastTo S32x128 (extractStridedSlice S1x128 ![rb, 0] sc (sliceS hr)) broadcasts_S1x128_S32x128)))))

/-- The row of scales with those of lane tile `t` put in their places. -/
def srowStep (t : ℕ) (sc old : FVec F S8x128 .f32) : FVec F S8x128 .f32 :=
  select (cmpi .eq (fmod (fdiv lane8 4#32 natLt_1_32) 4#32 broadcasts_S8x128_S8x128) (broadcast S8x128 (BitVec.ofNat 32 t)))
    (take8 sc (muli (fmod lane8 4#32 broadcasts_S8x128_S8x128) (broadcast S8x128 32#32))) old

/-- The row of scales over the four lane tiles. -/
def srowOf (a : FVec F S8x512 .f32) : FVec F S8x128 .f32 :=
  srowStep 3 (scT a 3 (by omega)) (srowStep 2 (scT a 2 (by omega)) (srowStep 1 (scT a 1 (by omega))
    (srowStep 0 (scT a 0 (by omega)) (broadcast S8x128 (Scalar.ofBits .f32 0x00000000#32)))))

/-- The position of grid point `n` among the eight that share 128 lanes of the scales. -/
def nMod (n : BitVec 32) : BitVec 32 :=
  let d : BitVec 32 := Scalar.select (Scalar.cmpi .eq 8#32 0#32) 1#32 8#32
  let r : BitVec 32 := Scalar.remsi n d
  Scalar.select (Scalar.andi (Scalar.xori (Scalar.cmpi .slt r 0#32) (Scalar.cmpi .slt d 0#32)) (Scalar.cmpi .ne r 0#32))
    (Scalar.addi r d) r

/-- The scales' 128 lanes with the 16 of grid point `n` replaced. -/
def merge (n : BitVec 32) (srow : FVec F S8x128 .f32) (old : Vec F S8x128 .f32) : FVec F S8x128 .f32 :=
  select (cmpi .eq (fdiv lane8 16#32 natLt_1_32) (broadcast S8x128 (nMod n))) srow
    (shapeCast S8x128 old shapeCasts_S8x128_S8x128)

theorem inbC {m t rb : ℕ} (hm : m < 6) (ht : t < 4) (hr : rb < 8) :
    ∀ a, (![256 * m + 32 * rb, 128 * t] : Fin 2 → Nat) a + S32x128.size a ≤ S1536x512.size a :=
  Rect.inb₂ (by show 256 * m + 32 * rb + 32 ≤ 1536; omega) (by show 128 * t + 128 ≤ 512; omega)
theorem packed4 {d : Fin 2 → Nat} {p b : Nat} (r : Rect ⟨2, d⟩) (hp : p = 4) (ho : r.off 0 = b) (hs : r.size 0 = 32) (ht : r.stride 0 = 1)
    (h : 4 ∣ b) : r.PackedRows p := by
  subst hp
  have h1 : 4 ∣ r.off 0 := by rw [ho]; exact h
  have h2 : 4 ∣ r.size 0 := by rw [hs]; decide
  exact .inr ⟨(by decide : 2 ≤ 2), ht, .inl ⟨h1, h2⟩⟩
theorem packC {m t rb : ℕ} (hm : m < 6) (ht : t < 4) (hr : rb < 8) :
    (Rect.unit (s := S1536x512) ![256 * m + 32 * rb, 128 * t] S32x128.size (inbC hm ht hr)).PackedRows (EltTy.packing .i8) :=
  packed4 _ rfl (b := 256 * m + 32 * rb) rfl rfl rfl ⟨64 * m + 8 * rb, by omega⟩
theorem inbXB {m : ℕ} (hm : m < 6) :
    ∀ a, (![256 * m, 0] : Fin 2 → Nat) a + S256x3584.size a ≤ S1536x3584.size a :=
  Rect.inb₂ (by show 256 * m + 256 ≤ 1536; omega) (by show 0 + 3584 ≤ 3584; omega)

/-- Where row tile `m`'s scales of grid point `i` go. -/
def offS (m : ℕ) (i : grid0.Coords) : Fin 2 → Nat :=
  ![8 * m, (Scalar.indexCast (k0_mult1 i)).toNat]
theorem inbS {m : ℕ} (hm : m < 6) (i : grid0.Coords) : ∀ a, offS m i a + S8x128.size a ≤ S48x640.size a := by
  have h := K0.Facts₀.k0_off1_inb i 1
  exact Rect.inb₂ (by show 8 * m + 8 ≤ 48; omega) h

section Main

variable (i : grid0.Coords)
  (arg5 : Memref sig .tc .vmem S1x1x512 .f32)
  (arg6 : Memref sig .tc .vmem S1536x512 .i8) (harg6 : arg6.IsWhole)
  (arg7 : Memref sig .tc .vmem S48x640 .f32)
  (arg8 : Memref sig .tc .vmem S1536x3584 .bf16)
  (arg9 : Memref sig .tc .vmem S512x3584 .bf16)

/-- One block of codes written. -/
def unitC (z : FVec F S256x512 .f32) (sc : FVec F S8x128 .f32) (m : ℕ) (hm : m < 6) (t : ℕ) (ht : t < 4) (rb : ℕ) (hr : rb < 8)
    (K : Prog (TpuEff nD τ sig (Elt F) Λ₀ .tc) PUnit) : Prog (TpuEff nD τ sig (Elt F) Λ₀ .tc) PUnit :=
  .op (.load arg6 (Rect.unit (s := S1536x512) ![256 * m + 32 * rb, 128 * t] S32x128.size (inbC hm ht hr)).toLoadRect (View.loadsAt_vmem h_S32x128))
    fun _ =>
  .op (.store arg6 (Rect.unit (s := S1536x512) ![256 * m + 32 * rb, 128 * t] S32x128.size (inbC hm ht hr))
      (codesOf z sc t ht rb hr) Finset.univ
      (View.stores_vmem h_S32x128 (harg6.storeExact_slice rfl _ (packC hm ht hr)) (fun _ => rfl)) (.inl rfl))
    fun _ => K

/-- One row tile: the product, its codes and its scales. -/
def unitM (m : ℕ) (hm : m < 6) (K : Prog (TpuEff nD τ sig (Elt F) Λ₀ .tc) PUnit) : Prog (TpuEff nD τ sig (Elt F) Λ₀ .tc) PUnit :=
  .op (.load arg8 (Rect.unit (s := S1536x3584) ![256 * m, 0] S256x3584.size (inbXB hm)).toLoadRect (View.loadsAt_vmem h_S256x3584))
    fun (xb : Vec F S256x3584 .bf16) =>
  .op (.load arg9 (Rect.unit (s := S512x3584) ![0, 0] S512x3584.size inb_S512x3584_S512x3584_0_0).toLoadRect (View.loadsAt_vmem h_S512x3584))
    fun (wb : Vec F S512x3584 .bf16) =>
  .op (.load arg5 (Rect.unit (s := S1x1x512) ![0, 0, 0] S1x1x512.size inb_S1x1x512_S1x1x512_0_0_0).toLoadRect (View.loadsAt_vmem h_S1x1x512))
    fun (b : Vec F S1x1x512 .f32) =>
  rep 4 (fun t ht => rep 8 (unitC arg6 harg6 (zM xb wb b) (scT (rowMax (zM xb wb b)) t ht) m hm t ht) 8 0 (by omega)) 4 0 (by omega) <|
  .op (.load arg7 (Rect.unit (s := S48x640) (offS m i) S8x128.size (inbS hm i)).toLoadRect (View.loadsAt_vmem h_S8x128))
    fun (old : Vec F S8x128 .f32) =>
  .op (.load arg7 (Rect.unit (s := S48x640) (offS m i) S8x128.size (inbS hm i)).toLoadRect (View.loadsAt_vmem h_S8x128))
    fun _ =>
  .op (.store arg7 (Rect.unit (s := S48x640) (offS m i) S8x128.size (inbS hm i))
      (merge (BitVec.ofNat 32 (i 0).val) (srowOf (rowMax (zM xb wb b))) old) Finset.univ
      (View.stores_vmem_bits_univ h_S8x128 rfl) (.inl rfl))
    fun _ => K

/-- All row tiles. -/
def rollM (K : Prog (TpuEff nD τ sig (Elt F) Λ₀ .tc) PUnit) : Prog (TpuEff nD τ sig (Elt F) Λ₀ .tc) PUnit :=
  rep 6 (unitM i arg5 arg6 harg6 arg7 arg8 arg9) 6 0 (by omega) K

end Main

section Body

variable (i : grid0.Coords) (arg1 : Memref sig .tc .vmem S1536x3584 .i8) (arg2 : Memref sig .tc .vmem S48x112 .f32)
  (arg3 : Memref sig .tc .vmem S512x3584 .i8) (arg4 : Memref sig .tc .vmem S16x112 .f32) (arg5 : Memref sig .tc .vmem S1x1x512 .f32)
  (arg6 : Memref sig .tc .vmem S1536x512 .i8) (harg6 : arg6.IsWhole) (arg7 : Memref sig .tc .vmem S48x640 .f32)
  (arg8 : Memref sig .tc .vmem S1536x3584 .bf16) (harg8 : arg8.IsWhole)
  (arg9 : Memref sig .tc .vmem S512x3584 .bf16) (harg9 : arg9.IsWhole)

/-- What the body does at the first grid point only: dequantise `x`, clear the scales. -/
def rollInit {α : Type} (K : Prog (TpuEff nD τ sig (Elt F) Λ₀ .tc) α) : Prog (TpuEff nD τ sig (Elt F) Λ₀ .tc) α :=
  .op (.load arg2 (Rect.unit (s := S48x112) ![0, 0] S48x112.size inb_S48x112_S48x112_0_0).toLoadRect (View.loadsAt_vmem h_S48x112))
    fun (v : Vec F S48x112 .f32) =>
  rollX arg1 arg8 harg8 (padX v) <|
  .op (.load arg7 (Rect.unit (s := S48x640) ![0, 0] S48x640.size inb_S48x640_S48x640_0_0).toLoadRect (View.loadsAt_vmem h_S48x640))
    fun _ =>
  .op (.store arg7 (Rect.unit (s := S48x640) ![0, 0] S48x640.size inb_S48x640_S48x640_0_0)
      (broadcast S48x640 (Scalar.ofBits .f32 0x00000000#32)) Finset.univ (View.stores_vmem_bits_univ h_S48x640 rfl) (.inl rfl))
    fun _ => K

/-- What the body does at every grid point: dequantise the tile of `w`, then the row tiles. -/
def rollStep : Prog (TpuEff nD τ sig (Elt F) Λ₀ .tc) PUnit :=
  .op (.load arg4 (Rect.unit (s := S16x112) ![0, 0] S16x112.size inb_S16x112_S16x112_0_0).toLoadRect (View.loadsAt_vmem h_S16x112))
    fun (v : Vec F S16x112 .f32) =>
  rollW arg3 arg9 harg9 (padW v) <| rollM i arg5 arg6 harg6 arg7 arg8 arg9 (pure ⟨⟩)

/-- Whether a grid point is the first, as the kernel tests it. -/
abbrev isFirst (i : grid0.Coords) : BitVec 1 :=
  Scalar.cmpi .ne (Scalar.extui (Scalar.cmpi .eq (BitVec.ofNat 32 (i 0).val) 0#32)) 0#32

/-- The reading of the tile's scales, and what the printed text passes on from there. -/
def headK : Prog (TpuEff nD τ sig (Elt F) Λ₀ .tc) (Σ' (_ : BitVec 32) (_ : FVec F S16x128 .f32), FVec F S16x128 .f32) :=
  .op (.load arg4 (Rect.unit (s := S16x112) ![0, 0] S16x112.size inb_S16x112_S16x112_0_0).toLoadRect (View.loadsAt_vmem h_S16x112))
    fun (v : Vec F S16x112 .f32) => .ret ⟨BitVec.ofNat 32 (i 0).val, padW v, expW (padW v) 0⟩

/-- The body in rolled form. -/
def rollBody : Prog (TpuEff nD τ sig (Elt F) Λ₀ .tc) PUnit :=
  if isFirst i = 1#1 then rollInit arg1 arg2 arg7 arg8 harg8 (rollStep i arg3 arg4 arg5 arg6 harg6 arg7 arg8 arg9 harg9)
  else rollStep i arg3 arg4 arg5 arg6 harg6 arg7 arg8 arg9 harg9

end Body

end Cert.KernelIdeal.Roll

end
-- ==== Proof.RollEq.lean ====
/- The printed body is the rolled one. -/
module
public import proofs.«01_k».proof.Proof.Roll
public import Idealize.ShloMosaic.Lib.Pipeline.Regions
@[expose] public section
noncomputable section
namespace Cert.KernelIdeal.Roll
open Idealize.ShloMosaic Idealize.SL.Sem
open Shapes1.Facts₀ Shapes2.Facts₀ Shapes3.Facts₀ Shapes4.Facts₀ Shapes5.Facts₀
variable {F : FTy → Type} [FloatOps F] [Facts]

/-- The body's first operations: at the first grid point the dequantisation of `x`, then the tile's scales read. -/
theorem head_eq  (i : grid0.Coords) (arg1 : Memref sig .tc .vmem S1536x3584 .i8) (harg1 : arg1.IsWhole) (arg2 : Memref sig .tc .vmem S48x112 .f32) (harg2 : arg2.IsWhole) (arg3 : Memref sig .tc .vmem S512x3584 .i8) (harg3 : arg3.IsWhole) (arg4 : Memref sig .tc .vmem S16x112 .f32) (harg4 : arg4.IsWhole) (arg5 : Memref sig .tc .vmem S1x1x512 .f32) (harg5 : arg5.IsWhole) (arg6 : Memref sig .tc .vmem S1536x512 .i8) (harg6 : arg6.IsWhole) (arg7 : Memref sig .tc .vmem S48x640 .f32) (harg7 : arg7.IsWhole) (arg8 : Memref sig .tc .vmem S1536x3584 .bf16) (harg8 : arg8.IsWhole) (arg9 : Memref sig .tc .vmem S512x3584 .bf16) (harg9 : arg9.IsWhole)  :
    k0_part387 (F := F) i arg1 harg1 arg2 harg2 arg3 harg3 arg4 harg4 arg5 harg5 arg6 harg6 arg7 harg7 arg8 harg8 arg9 harg9 =
      if isFirst i = 1#1 then rollInit arg1 arg2 arg7 arg8 harg8 (headK i arg4) else headK i arg4 := by
  chain_rfl

theorem bind_shape {E : Type → Type} {α β γ : Type} (m : Prog E α) (k₁ : α → Prog E β) (k₂ : β → Prog E γ) :
    ((m >>= k₁) >>= k₂) = m >>= fun a => k₁ a >>= k₂ := LawfulMonad.bind_assoc m k₁ k₂

/-- The printed body and the rolled one are the same program. -/

theorem body_eq  (i : grid0.Coords) (arg1 : Memref sig .tc .vmem S1536x3584 .i8) (harg1 : arg1.IsWhole) (arg2 : Memref sig .tc .vmem S48x112 .f32) (harg2 : arg2.IsWhole) (arg3 : Memref sig .tc .vmem S512x3584 .i8) (harg3 : arg3.IsWhole) (arg4 : Memref sig .tc .vmem S16x112 .f32) (harg4 : arg4.IsWhole) (arg5 : Memref sig .tc .vmem S1x1x512 .f32) (harg5 : arg5.IsWhole) (arg6 : Memref sig .tc .vmem S1536x512 .i8) (harg6 : arg6.IsWhole) (arg7 : Memref sig .tc .vmem S48x640 .f32) (harg7 : arg7.IsWhole) (arg8 : Memref sig .tc .vmem S1536x3584 .bf16) (harg8 : arg8.IsWhole) (arg9 : Memref sig .tc .vmem S512x3584 .bf16) (harg9 : arg9.IsWhole)  :
    cc0__body (F := F) i arg1 harg1 arg2 harg2 arg3 harg3 arg4 harg4 arg5 harg5 arg6 harg6 arg7 harg7 arg8 harg8 arg9 harg9
      = rollBody i arg1 arg2 arg3 arg4 arg5 arg6 harg6 arg7 arg8 harg8 arg9 harg9 := by
  unfold cc0__body k0_part653
  refine (bind_shape _ _ _).trans ?_
  rw [head_eq]
  unfold rollBody
  split <;> chain_rfl

end Cert.KernelIdeal.Roll

end
-- ==== Proof.Steps.lean ====
/- Rules for straight-line memory programs over what memrefs hold: a load at a rectangle reads a window of the contents,
   a store puts the payload over a window, a repetition keeps an invariant; and the contents of an array that is being
   filled block by block in a fixed order. -/
module

public import proofs.«01_k».proof.Proof.Roll
public import Idealize.ShloMosaic.Lib.VecWindow
public import Idealize.ShloMosaic.Lib.Exec
public import Idealize.ShloMosaic.Lib.Tactic

@[expose] public section

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

section Rules

variable [Preorder Lvl] {defs : Defs nD τ sig Val Λ} {𝒱 : Variants} {c : Thread nD τ} {bd : Option 𝒱.V} {E : Set Name}
variable {s : Shape} {e : EltTy} {α : Type} {cs : CoreSpace}
  {Q : α → sProp (MT nD τ sig Ix Val Name U Lvl)}

/-- A load at a unit-stride rectangle of a memref that holds `X` continues at the window of `X`. -/
theorem wp_load_owns {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α} {q : PosShare TreeShare} {X : s.Idx → Val e} :
    (owns c m q X : sProp 𝕄) ⊢ iprop((owns c m q X -∗ wp frame (wpE defs 𝒱 c bd) E (k (VecWindow.window X off size inb)) Q)
      -∗ wp frame (wpE defs 𝒱 c bd) E (.op (.load m (Rect.unit off size inb).toLoadRect hl) k) Q) := by
  unfold owns
  iintro ⟨%f, %hf, H⟩ Hk
  subst hf
  iapply wp_load 𝒱 c bd E (hl := hl) (k := k) (Memref.setOn_subset_of_access_subset _ (View.set_slice_subset _ _)) $$ H
  iintro H
  iapply Hk
  iexists f
  isplitr
  · ipureintro; rfl
  · iexact H

/-- An unmasked store at a unit-stride rectangle of a memref that holds `X` leaves the payload put over `X`. -/
theorem wp_store_owns {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e} :
    (owns c m fullShare X : sProp 𝕄) ⊢ iprop((owns c m fullShare (VecWindow.put X off size w) -∗ wp frame (wpE defs 𝒱 c bd) E (k ⟨⟩) Q)
      -∗ wp frame (wpE defs 𝒱 c bd) E (.op (.store m (Rect.unit off size inb) w Finset.univ hx hm) k) Q) := by
  unfold owns
  iintro ⟨%f, %hf, H⟩ Hk
  subst hf
  iapply wp_store 𝒱 c bd E (hx := hx) (hm := hm) (k := k) (View.set_slice_subset _ _) $$ H
  iintro H
  iapply Hk
  iexists _
  isplitr
  · ipureintro; exact (View.read_writes_cons_put m.view f inb w [] rfl)
  · iexact H

/-- A repetition whose step takes the invariant at `k` to the invariant at `k + 1`. -/
theorem wp_rep {N : ℕ} {f : (k : ℕ) → k < N → Prog (TpuEff nD τ sig Val Λ c.2) α → Prog (TpuEff nD τ sig Val Λ c.2) α}
    (I : ℕ → sProp 𝕄)
    (hstep : ∀ k hk K, iprop(I k ∗ (I (k + 1) -∗ wp frame (wpE defs 𝒱 c bd) E K Q)) ⊢ wp frame (wpE defs 𝒱 c bd) E (f k hk K) Q)
    (n : ℕ) : ∀ (s : ℕ) (h : s + n ≤ N) (K : Prog (TpuEff nD τ sig Val Λ c.2) α),
      iprop(I s ∗ (I (s + n) -∗ wp frame (wpE defs 𝒱 c bd) E K Q)) ⊢ wp frame (wpE defs 𝒱 c bd) E (rep N f n s h K) Q := by
  induction n with
  | zero =>
    intro s h K
    show _ ⊢ wp frame (wpE defs 𝒱 c bd) E K Q
    iintro ⟨H, Hk⟩
    iapply Hk; iexact H
  | succ n ih =>
    intro s h K
    show _ ⊢ wp frame (wpE defs 𝒱 c bd) E (f s _ (rep N f n (s + 1) _ K)) Q
    have h' : s + 1 + n ≤ N := by omega
    refine .trans ?_ (hstep s _ _)
    iintro ⟨H, Hk⟩
    isplitl [H]; · iexact H
    iintro H
    iapply (ih (s + 1) h' K)
    isplitl [H]; · iexact H
    iintro H
    iapply Hk
    rw [show s + (n + 1) = s + 1 + n by omega]
    iexact H

end Rules

/-! ## An array filled in a fixed order -/

/-- The memref holds the target `T` at every element whose number in the order is below `p`. -/
def filled (c : Thread nD τ) {cs : Space} {s : Shape} {e : EltTy} (m : Memref sig c.2.kind cs s e) (T : s.Idx → Val e)
    (ord : s.Idx → ℕ) (p : ℕ) : sProp 𝕄 :=
  iprop(∃ X, ⌜∀ y, ord y < p → X y = T y⌝ ∗ owns c m fullShare X)

theorem filled_zero (c : Thread nD τ) {cs : Space} {s : Shape} {e : EltTy} (m : Memref sig c.2.kind cs s e) (T X : s.Idx → Val e)
    (ord : s.Idx → ℕ) : (owns c m fullShare X : sProp 𝕄) ⊢ filled c m T ord 0 := by
  unfold filled
  iintro H; iexists X; isplitr
  · ipureintro; intro y h; exact absurd h (Nat.not_lt_zero _)
  · iexact H

theorem filled_all (c : Thread nD τ) {cs : Space} {s : Shape} {e : EltTy} (m : Memref sig c.2.kind cs s e) (T : s.Idx → Val e)
    (ord : s.Idx → ℕ) (p : ℕ) (h : ∀ y, ord y < p) : (filled c m T ord p : sProp 𝕄) ⊢ owns c m fullShare T := by
  unfold filled
  iintro ⟨%X, %hX, H⟩
  rw [show X = T from funext fun y => hX y (h y)]
  iexact H

/-- A put of the elements numbered `p`, each at its target, takes the filling from `p` to `p + 1`. -/
theorem put_filled {s : Shape} {β : Type} {X T : s.Idx → β} {ord : s.Idx → ℕ} {p : ℕ} {off size : Fin s.rank → ℕ}
    {w : ((a : Fin s.rank) → Fin (size a)) → β} (hX : ∀ y, ord y < p → X y = T y)
    (hin : ∀ y, ord y = p → ∀ a, off a ≤ (y a).val ∧ (y a).val < off a + size a)
    (hT : ∀ y (h : ∀ a, off a ≤ (y a).val ∧ (y a).val < off a + size a), w (Rect.unitLocal (s := s) y h) = T y) :
    ∀ y, ord y < p + 1 → VecWindow.put X off size w y = T y := by
  intro y hy
  unfold VecWindow.put
  by_cases h : ∀ a, off a ≤ (y a).val ∧ (y a).val < off a + size a
  · rw [dif_pos h]; exact hT y h
  · rw [dif_neg h]
    rcases Nat.lt_succ_iff_lt_or_eq.mp hy with h' | h'
    · exact hX y h'
    · exact absurd (hin y h') h

end Cert.KernelIdeal.Roll

end
-- ==== Proof.Body.lean ====
/- What the kernel's body leaves in every memref it writes, at one grid point, over any float instance: the dequantised
   `x` and tile of `w`, the codes of the tile, and the scales with the tile's entries replaced. -/
module

public import proofs.«01_k».proof.Proof.Steps

@[expose] public section

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Shapes1.Facts₀ Shapes2.Facts₀ Shapes3.Facts₀ Shapes4.Facts₀ Shapes5.Facts₀

/-! ## Arrays given by 32 × 128 blocks -/

/-- The array whose block in lane tile `l`, row block `r` is `P l r`. -/
def tile {R C NL NR : ℕ} {β : Type} (hR : R ≤ 32 * NR) (hC : C ≤ 128 * NL) (P : Fin NL → Fin NR → S32x128.Idx → β) :
    (⟨2, ![R, C]⟩ : Shape).Idx → β := fun y =>
  have h0 : (y 0).val < R := (y 0).isLt
  have h1 : (y 1).val < C := (y 1).isLt
  P ⟨(y 1).val / 128, by omega⟩ ⟨(y 0).val / 32, by omega⟩
    (Fin.cons ⟨(y 0).val % 32, Nat.mod_lt _ (by omega)⟩ (Fin.cons ⟨(y 1).val % 128, Nat.mod_lt _ (by omega)⟩ (fun a => a.elim0)))

theorem tile_unitLocal {R C NL NR : ℕ} {β : Type} (hR : R ≤ 32 * NR) (hC : C ≤ 128 * NL) (P : Fin NL → Fin NR → S32x128.Idx → β)
    {r l : ℕ} (hr : r < NR) (hl : l < NL) {o : ℕ} (ho : o = 32 * r) (y : (⟨2, ![R, C]⟩ : Shape).Idx)
    (h : ∀ a, (![o, 128 * l] : Fin 2 → ℕ) a ≤ (y a).val ∧ (y a).val < (![o, 128 * l] : Fin 2 → ℕ) a + S32x128.size a) :
    P ⟨l, hl⟩ ⟨r, hr⟩ (Rect.unitLocal (s := ⟨2, ![R, C]⟩) (off := ![o, 128 * l]) (size := S32x128.size) y h) = tile hR hC P y := by
  subst ho
  have h0 : 32 * r ≤ (y 0).val ∧ (y 0).val < 32 * r + 32 := h 0
  have h1 : 128 * l ≤ (y 1).val ∧ (y 1).val < 128 * l + 128 := h 1
  have e0 : (y 0).val / 32 = r := by omega
  have e1 : (y 1).val / 128 = l := by omega
  subst e0 e1
  refine congrArg (P _ _) (funext (Fin.forall_fin_two.2 ⟨Fin.ext ?_, Fin.ext ?_⟩))
  · show (y 0).val - 32 * ((y 0).val / 32) = (y 0).val % 32
    omega
  · show (y 1).val - 128 * ((y 1).val / 128) = (y 1).val % 128
    omega

/-- Blocks in order: lane tile by lane tile, each from the top down. -/
def ordLR (n : ℕ) {R C : ℕ} (y : (⟨2, ![R, C]⟩ : Shape).Idx) : ℕ := (y 1).val / 128 * n + (y 0).val / 32

/-- The codes' blocks in order: row tiles of 256, in each the lane tiles, each from the top down. -/
def ordC {R C : ℕ} (y : (⟨2, ![R, C]⟩ : Shape).Idx) : ℕ := (y 0).val / 256 * 32 + (y 1).val / 128 * 8 + (y 0).val % 256 / 32

/-- A put of one value everywhere, where the window reaches. -/
theorem put_const {s : Shape} {β : Type} (X : s.Idx → β) (off size : Fin s.rank → ℕ) (v : β) (y : s.Idx)
    (h : ∀ a, off a ≤ (y a).val ∧ (y a).val < off a + size a) : VecWindow.put X off size (fun _ => v) y = v := by
  unfold VecWindow.put; rw [dif_pos h]

variable {F : FTy → Type} [FloatOps F] [Facts]

/-! ## The values -/

/-- A block of the dequantised `x`. -/
def blkX (x : Vec F S1536x3584 .i8) (xs : Vec F S48x112 .f32) (l : Fin 28) (r : Fin 48) : FVec F S32x128 .bf16 :=
  shapeCast S32x128 (dq (shapeCast S32x128 (VecWindow.window x ![32 * r.val, 128 * l.val] S32x128.size (inbX r.2 l.2) : Vec F S32x128 .i8)
      shapeCasts_S32x128_S32x128)
    (extractStridedSlice S1x128 ![r.val, 0] (expX (padX xs) l.val) (sliceX r.2))) shapeCasts_S32x128_S32x128
/-- The dequantised `x`. -/
def valX (x : Vec F S1536x3584 .i8) (xs : Vec F S48x112 .f32) : Vec F S1536x3584 .bf16 :=
  tile (R := 1536) (C := 3584) (by decide) (by decide) (blkX x xs)

/-- A block of the dequantised tile of `w`. -/
def blkW (w : Vec F S512x3584 .i8) (ws : Vec F S16x112 .f32) (l : Fin 28) (r : Fin 16) : FVec F S32x128 .bf16 :=
  shapeCast S32x128 (dq (VecWindow.window w ![32 * r.val, 128 * l.val] S32x128.size (inbW r.2 l.2))
    (extractStridedSlice S1x128 ![r.val, 0] (expW (padW ws) l.val) (sliceW r.2))) shapeCasts_S32x128_S32x128
/-- The dequantised tile of `w`. -/
def valW (w : Vec F S512x3584 .i8) (ws : Vec F S16x112 .f32) : Vec F S512x3584 .bf16 :=
  tile (R := 512) (C := 3584) (by decide) (by decide) (blkW w ws)

/-- Row tile `m` of the activated product. -/
def valZ (xb : Vec F S1536x3584 .bf16) (wb : Vec F S512x3584 .bf16) (b : Vec F S1x1x512 .f32) (m : ℕ) (hm : m < 6) : FVec F S256x512 .f32 :=
  zM (VecWindow.window xb ![256 * m, 0] S256x3584.size (inbXB hm))
    (VecWindow.window wb ![0, 0] S512x3584.size inb_S512x3584_S512x3584_0_0)
    (VecWindow.window b ![0, 0, 0] S1x1x512.size inb_S1x1x512_S1x1x512_0_0_0)

/-- A block of codes: row block `r` of the whole tile is row block `r % 8` of row tile `r / 8`. -/
def blkC (Z : (m : ℕ) → m < 6 → FVec F S256x512 .f32) (t : Fin 4) (r : Fin 48) : IVec S32x128 8 :=
  codesOf (Z (r.val / 8) (by omega)) (scT (rowMax (Z (r.val / 8) (by omega))) t.val t.2) t.val t.2 (r.val % 8) (by omega)
/-- The codes of the tile. -/
def valC (Z : (m : ℕ) → m < 6 → FVec F S256x512 .f32) : Vec F S1536x512 .i8 :=
  tile (R := 1536) (C := 512) (by decide) (by decide) (blkC Z)

/-- The scales after the first `m` row tiles. -/
def valS (i : grid0.Coords) (Z : (m : ℕ) → m < 6 → FVec F S256x512 .f32) (S : Vec F S48x640 .f32) : ℕ → Vec F S48x640 .f32
  | 0 => S
  | m + 1 => if h : m < 6 then
      VecWindow.put (valS i Z S m) (offS m i) S8x128.size
        (merge (BitVec.ofNat 32 (i 0).val) (srowOf (rowMax (Z m h))) (VecWindow.window (valS i Z S m) (offS m i) S8x128.size (inbS h i)))
    else valS i Z S m

/-! ## The rules -/

section Rules

variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} {𝒱 : Variants} (c : Dev nD) {bd : Option 𝒱.V} {E : Set Name}
variable (arg1 : Memref sig .tc .vmem S1536x3584 .i8) (arg2 : Memref sig .tc .vmem S48x112 .f32)
  (arg3 : Memref sig .tc .vmem S512x3584 .i8) (arg4 : Memref sig .tc .vmem S16x112 .f32) (arg5 : Memref sig .tc .vmem S1x1x512 .f32)
  (arg6 : Memref sig .tc .vmem S1536x512 .i8) (harg6 : arg6.IsWhole) (arg7 : Memref sig .tc .vmem S48x640 .f32)
  (arg8 : Memref sig .tc .vmem S1536x3584 .bf16) (harg8 : arg8.IsWhole)
  (arg9 : Memref sig .tc .vmem S512x3584 .bf16) (harg9 : arg9.IsWhole)
variable {Q : PUnit → sProp (MT nD τ sig Ix (Elt F) Name U Lvl)}

theorem wp_unitX (x : Vec F S1536x3584 .i8) (xs : Vec F S48x112 .f32) (lt : ℕ) (hl : lt < 28) (rb : ℕ) (hr : rb < 48)
    (K : Prog (TpuEff nD τ sig (Elt F) Λ₀ .tc) PUnit) :
    (iprop((owns (c : Thread nD τ) arg1 fullShare x ∗ filled (c : Thread nD τ) arg8 (valX x xs) (ordLR 48) (lt * 48 + rb))
        ∗ ((owns (c : Thread nD τ) arg1 fullShare x ∗ filled (c : Thread nD τ) arg8 (valX x xs) (ordLR 48) (lt * 48 + (rb + 1)))
          -∗ wp frame (wpE defs 𝒱 (c : Thread nD τ) bd) E K Q)) : sProp 𝕄)
      ⊢ wp frame (wpE defs 𝒱 (c : Thread nD τ) bd) E (unitX arg1 arg8 harg8 (expX (padX xs) lt) lt hl rb hr K) Q := by
  unfold filled unitX
  iintro ⟨⟨H1, %X, %hX, H8⟩, Hk⟩
  iapply wp_load_owns $$ H1
  iintro H1
  iapply wp_load_owns $$ H8
  iintro H8
  iapply wp_store_owns $$ H8
  iintro H8
  iapply Hk
  isplitl [H1]; · iexact H1
  iexists _
  isplitr
  swap; · iexact H8
  ipureintro
  refine put_filled hX ?_ fun y h => tile_unitLocal (NL := 28) (NR := 48) _ _ (blkX x xs) hr hl rfl y h
  intro y hy
  have hy : (y 1).val / 128 * 48 + (y 0).val / 32 = lt * 48 + rb := hy
  have h0 : (y 0).val < 1536 := (y 0).isLt
  exact Fin.forall_fin_two.2 ⟨by show 32 * rb ≤ (y 0).val ∧ (y 0).val < 32 * rb + 32; omega,
    by show 128 * lt ≤ (y 1).val ∧ (y 1).val < 128 * lt + 128; omega⟩

theorem wp_rollX (x : Vec F S1536x3584 .i8) (xs : Vec F S48x112 .f32) (X : Vec F S1536x3584 .bf16)
    (K : Prog (TpuEff nD τ sig (Elt F) Λ₀ .tc) PUnit) :
    (iprop(owns (c : Thread nD τ) arg1 fullShare x ∗ owns (c : Thread nD τ) arg8 fullShare X
        ∗ (owns (c : Thread nD τ) arg1 fullShare x -∗ owns (c : Thread nD τ) arg8 fullShare (valX x xs)
          -∗ wp frame (wpE defs 𝒱 (c : Thread nD τ) bd) E K Q)) : sProp 𝕄)
      ⊢ wp frame (wpE defs 𝒱 (c : Thread nD τ) bd) E (rollX arg1 arg8 harg8 (padX xs) K) Q := by
  unfold rollX
  refine .trans ?_ (wp_rep (c := (c : Thread nD τ)) (fun l => iprop(owns (c : Thread nD τ) arg1 fullShare x
    ∗ filled (c : Thread nD τ) arg8 (valX x xs) (ordLR 48) (l * 48))) (fun l hl K' => ?_) 28 0 (by omega) K)
  · iintro ⟨H1, H8, Hk⟩
    isplitl [H1 H8]
    · isplitl [H1]; · iexact H1
      rw [Nat.zero_mul]
      iapply filled_zero; iexact H8
    iintro ⟨H1, H8⟩
    iapply Hk $$ H1
    iapply filled_all (c : Thread nD τ) arg8 _ _ _ (fun y => ?_) $$ H8
    have h0 : (y 0).val < 1536 := (y 0).isLt
    have h1 : (y 1).val < 3584 := (y 1).isLt
    unfold ordLR; omega
  · have h := wp_rep (c := (c : Thread nD τ)) (Q := Q) (𝒱 := 𝒱) (bd := bd) (E := E) (defs := defs) (fun r => iprop(owns (c : Thread nD τ) arg1 fullShare x
      ∗ filled (c : Thread nD τ) arg8 (valX x xs) (ordLR 48) (l * 48 + r)))
      (fun r hr K'' => wp_unitX c arg1 arg8 harg8 x xs l hl r hr K'') 48 0 (by omega) K'
    rw [show l * 48 + (0 + 48) = (l + 1) * 48 by omega] at h
    exact h

theorem wp_unitW (w : Vec F S512x3584 .i8) (ws : Vec F S16x112 .f32) (lt : ℕ) (hl : lt < 28) (rb : ℕ) (hr : rb < 16)
    (K : Prog (TpuEff nD τ sig (Elt F) Λ₀ .tc) PUnit) :
    (iprop((owns (c : Thread nD τ) arg3 fullShare w ∗ filled (c : Thread nD τ) arg9 (valW w ws) (ordLR 16) (lt * 16 + rb))
        ∗ ((owns (c : Thread nD τ) arg3 fullShare w ∗ filled (c : Thread nD τ) arg9 (valW w ws) (ordLR 16) (lt * 16 + (rb + 1)))
          -∗ wp frame (wpE defs 𝒱 (c : Thread nD τ) bd) E K Q)) : sProp 𝕄)
      ⊢ wp frame (wpE defs 𝒱 (c : Thread nD τ) bd) E (unitW arg3 arg9 harg9 (expW (padW ws) lt) lt hl rb hr K) Q := by
  unfold filled unitW
  iintro ⟨⟨H1, %X, %hX, H8⟩, Hk⟩
  iapply wp_load_owns $$ H1
  iintro H1
  iapply wp_load_owns $$ H8
  iintro H8
  iapply wp_store_owns $$ H8
  iintro H8
  iapply Hk
  isplitl [H1]; · iexact H1
  iexists _
  isplitr
  swap; · iexact H8
  ipureintro
  refine put_filled hX ?_ fun y h => tile_unitLocal (NL := 28) (NR := 16) _ _ (blkW w ws) hr hl rfl y h
  intro y hy
  have hy : (y 1).val / 128 * 16 + (y 0).val / 32 = lt * 16 + rb := hy
  have h0 : (y 0).val < 512 := (y 0).isLt
  exact Fin.forall_fin_two.2 ⟨by show 32 * rb ≤ (y 0).val ∧ (y 0).val < 32 * rb + 32; omega,
    by show 128 * lt ≤ (y 1).val ∧ (y 1).val < 128 * lt + 128; omega⟩

theorem wp_rollW (w : Vec F S512x3584 .i8) (ws : Vec F S16x112 .f32) (X : Vec F S512x3584 .bf16)
    (K : Prog (TpuEff nD τ sig (Elt F) Λ₀ .tc) PUnit) :
    (iprop(owns (c : Thread nD τ) arg3 fullShare w ∗ owns (c : Thread nD τ) arg9 fullShare X
        ∗ (owns (c : Thread nD τ) arg3 fullShare w -∗ owns (c : Thread nD τ) arg9 fullShare (valW w ws)
          -∗ wp frame (wpE defs 𝒱 (c : Thread nD τ) bd) E K Q)) : sProp 𝕄)
      ⊢ wp frame (wpE defs 𝒱 (c : Thread nD τ) bd) E (rollW arg3 arg9 harg9 (padW ws) K) Q := by
  unfold rollW
  refine .trans ?_ (wp_rep (c := (c : Thread nD τ)) (fun l => iprop(owns (c : Thread nD τ) arg3 fullShare w
    ∗ filled (c : Thread nD τ) arg9 (valW w ws) (ordLR 16) (l * 16))) (fun l hl K' => ?_) 28 0 (by omega) K)
  · iintro ⟨H1, H8, Hk⟩
    isplitl [H1 H8]
    · isplitl [H1]; · iexact H1
      rw [Nat.zero_mul]
      iapply filled_zero; iexact H8
    iintro ⟨H1, H8⟩
    iapply Hk $$ H1
    iapply filled_all (c : Thread nD τ) arg9 _ _ _ (fun y => ?_) $$ H8
    have h0 : (y 0).val < 512 := (y 0).isLt
    have h1 : (y 1).val < 3584 := (y 1).isLt
    unfold ordLR; omega
  · have h := wp_rep (c := (c : Thread nD τ)) (Q := Q) (𝒱 := 𝒱) (bd := bd) (E := E) (defs := defs) (fun r => iprop(owns (c : Thread nD τ) arg3 fullShare w
      ∗ filled (c : Thread nD τ) arg9 (valW w ws) (ordLR 16) (l * 16 + r)))
      (fun r hr K'' => wp_unitW c arg3 arg9 harg9 w ws l hl r hr K'') 16 0 (by omega) K'
    rw [show l * 16 + (0 + 16) = (l + 1) * 16 by omega] at h
    exact h

theorem blkC_eq (Z : (m : ℕ) → m < 6 → FVec F S256x512 .f32) {m t rb : ℕ} (hm : m < 6) (ht : t < 4) (hr : rb < 8) (h : 8 * m + rb < 48) :
    codesOf (Z m hm) (scT (rowMax (Z m hm)) t ht) t ht rb hr = blkC Z ⟨t, ht⟩ ⟨8 * m + rb, h⟩ := by
  have e1 : (8 * m + rb) / 8 = m := by omega
  have e2 : (8 * m + rb) % 8 = rb := by omega
  have key : ∀ (m' rb' : ℕ) (hm' : m' < 6) (hr' : rb' < 8), m' = m → rb' = rb →
      codesOf (Z m hm) (scT (rowMax (Z m hm)) t ht) t ht rb hr = codesOf (Z m' hm') (scT (rowMax (Z m' hm')) t ht) t ht rb' hr' := by
    intro m' rb' hm' hr' h1 h2; subst h1 h2; rfl
  exact key _ _ (by omega) (by omega) e1 e2

theorem wp_unitC (Z : (m : ℕ) → m < 6 → FVec F S256x512 .f32) (m : ℕ) (hm : m < 6) (t : ℕ) (ht : t < 4) (rb : ℕ) (hr : rb < 8)
    (K : Prog (TpuEff nD τ sig (Elt F) Λ₀ .tc) PUnit) :
    (iprop(filled (c : Thread nD τ) arg6 (valC Z) ordC (m * 32 + t * 8 + rb)
        ∗ (filled (c : Thread nD τ) arg6 (valC Z) ordC (m * 32 + t * 8 + (rb + 1))
          -∗ wp frame (wpE defs 𝒱 (c : Thread nD τ) bd) E K Q)) : sProp 𝕄)
      ⊢ wp frame (wpE defs 𝒱 (c : Thread nD τ) bd) E (unitC arg6 harg6 (Z m hm) (scT (rowMax (Z m hm)) t ht) m hm t ht rb hr K) Q := by
  unfold filled unitC
  iintro ⟨⟨%X, %hX, H8⟩, Hk⟩
  iapply wp_load_owns $$ H8
  iintro H8
  iapply wp_store_owns $$ H8
  iintro H8
  iapply Hk
  iexists _
  isplitr
  swap; · iexact H8
  ipureintro
  have hr' : 8 * m + rb < 48 := by omega
  rw [blkC_eq Z hm ht hr hr']
  refine put_filled hX ?_ fun y h => tile_unitLocal (NL := 4) (NR := 48) _ _ (blkC Z) hr' ht (by omega) y h
  intro y hy
  have hy : (y 0).val / 256 * 32 + (y 1).val / 128 * 8 + (y 0).val % 256 / 32 = m * 32 + t * 8 + rb := hy
  have h0 : (y 0).val < 1536 := (y 0).isLt
  have h1 : (y 1).val < 512 := (y 1).isLt
  exact Fin.forall_fin_two.2 ⟨by show 256 * m + 32 * rb ≤ (y 0).val ∧ (y 0).val < 256 * m + 32 * rb + 32; omega,
    by show 128 * t ≤ (y 1).val ∧ (y 1).val < 128 * t + 128; omega⟩

theorem wp_rollC (Z : (m : ℕ) → m < 6 → FVec F S256x512 .f32) (m : ℕ) (hm : m < 6)
    (K : Prog (TpuEff nD τ sig (Elt F) Λ₀ .tc) PUnit) :
    (iprop(filled (c : Thread nD τ) arg6 (valC Z) ordC (m * 32)
        ∗ (filled (c : Thread nD τ) arg6 (valC Z) ordC ((m + 1) * 32) -∗ wp frame (wpE defs 𝒱 (c : Thread nD τ) bd) E K Q)) : sProp 𝕄)
      ⊢ wp frame (wpE defs 𝒱 (c : Thread nD τ) bd) E
        (rep 4 (fun t ht => rep 8 (unitC arg6 harg6 (Z m hm) (scT (rowMax (Z m hm)) t ht) m hm t ht) 8 0 (by omega)) 4 0 (by omega) K) Q := by
  have h := wp_rep (c := (c : Thread nD τ)) (Q := Q) (𝒱 := 𝒱) (bd := bd) (E := E) (defs := defs)
    (f := fun t ht => rep 8 (unitC arg6 harg6 (Z m hm) (scT (rowMax (Z m hm)) t ht) m hm t ht) 8 0 (by omega))
    (fun t => filled (c : Thread nD τ) arg6 (valC Z) ordC (m * 32 + t * 8)) (fun t ht K' => ?_) 4 0 (by omega) K
  · rw [show m * 32 + (0 + 4) * 8 = (m + 1) * 32 by omega] at h
    exact h
  · have h := wp_rep (c := (c : Thread nD τ)) (Q := Q) (𝒱 := 𝒱) (bd := bd) (E := E) (defs := defs)
      (fun r => filled (c : Thread nD τ) arg6 (valC Z) ordC (m * 32 + t * 8 + r))
      (fun r hr K'' => wp_unitC c arg6 harg6 Z m hm t ht r hr K'') 8 0 (by omega) K'
    rw [show m * 32 + t * 8 + (0 + 8) = m * 32 + (t + 1) * 8 by omega] at h
    exact h

/-- What is held between the row tiles: the dequantised arrays and the bias, the codes of the first `m` row tiles, the scales after them. -/
def invM (i : grid0.Coords) (xb : Vec F S1536x3584 .bf16) (wb : Vec F S512x3584 .bf16) (b : Vec F S1x1x512 .f32) (S : Vec F S48x640 .f32)
    (m : ℕ) : sProp 𝕄 :=
  iprop(owns (c : Thread nD τ) arg8 fullShare xb ∗ owns (c : Thread nD τ) arg9 fullShare wb ∗ owns (c : Thread nD τ) arg5 fullShare b
    ∗ filled (c : Thread nD τ) arg6 (valC (valZ xb wb b)) ordC (m * 32) ∗ owns (c : Thread nD τ) arg7 fullShare (valS i (valZ xb wb b) S m))

theorem wp_unitM (i : grid0.Coords) (xb : Vec F S1536x3584 .bf16) (wb : Vec F S512x3584 .bf16) (b : Vec F S1x1x512 .f32) (S : Vec F S48x640 .f32)
    (m : ℕ) (hm : m < 6) (K : Prog (TpuEff nD τ sig (Elt F) Λ₀ .tc) PUnit) :
    (iprop(invM c arg5 arg6 arg7 arg8 arg9 i xb wb b S m
        ∗ (invM c arg5 arg6 arg7 arg8 arg9 i xb wb b S (m + 1) -∗ wp frame (wpE defs 𝒱 (c : Thread nD τ) bd) E K Q)) : sProp 𝕄)
      ⊢ wp frame (wpE defs 𝒱 (c : Thread nD τ) bd) E (unitM i arg5 arg6 harg6 arg7 arg8 arg9 m hm K) Q := by
  unfold invM unitM
  iintro ⟨⟨H8, H9, H5, H6, H7⟩, Hk⟩
  iapply wp_load_owns $$ H8
  iintro H8
  iapply wp_load_owns $$ H9
  iintro H9
  iapply wp_load_owns $$ H5
  iintro H5
  iapply wp_rollC c arg6 harg6 (valZ xb wb b) m hm _
  isplitl [H6]; · iexact H6
  iintro H6
  iapply wp_load_owns $$ H7
  iintro H7
  iapply wp_load_owns $$ H7
  iintro H7
  iapply wp_store_owns $$ H7
  iintro H7
  iapply Hk
  isplitl [H8]; · iexact H8
  isplitl [H9]; · iexact H9
  isplitl [H5]; · iexact H5
  isplitl [H6]; · iexact H6
  rw [valS, dif_pos hm]
  iexact H7

/-- Every grid point: the tile of `w` dequantised, then the row tiles. -/
theorem wp_rollStep (i : grid0.Coords) (xb : Vec F S1536x3584 .bf16) (w : Vec F S512x3584 .i8) (ws : Vec F S16x112 .f32)
    (b : Vec F S1x1x512 .f32) (S : Vec F S48x640 .f32) (C : Vec F S1536x512 .i8) (W : Vec F S512x3584 .bf16) :
    (iprop(owns (c : Thread nD τ) arg3 fullShare w ∗ owns (c : Thread nD τ) arg4 fullShare ws ∗ owns (c : Thread nD τ) arg5 fullShare b
        ∗ owns (c : Thread nD τ) arg6 fullShare C ∗ owns (c : Thread nD τ) arg7 fullShare S ∗ owns (c : Thread nD τ) arg8 fullShare xb
        ∗ owns (c : Thread nD τ) arg9 fullShare W
        ∗ (owns (c : Thread nD τ) arg3 fullShare w -∗ owns (c : Thread nD τ) arg4 fullShare ws -∗ owns (c : Thread nD τ) arg5 fullShare b
          -∗ owns (c : Thread nD τ) arg6 fullShare (valC (valZ xb (valW w ws) b))
          -∗ owns (c : Thread nD τ) arg7 fullShare (valS i (valZ xb (valW w ws) b) S 6)
          -∗ owns (c : Thread nD τ) arg8 fullShare xb -∗ owns (c : Thread nD τ) arg9 fullShare (valW w ws) -∗ Q ⟨⟩)) : sProp 𝕄)
      ⊢ wp frame (wpE defs 𝒱 (c : Thread nD τ) bd) E (rollStep i arg3 arg4 arg5 arg6 harg6 arg7 arg8 arg9 harg9) Q := by
  unfold rollStep
  iintro ⟨H3, H4, H5, H6, H7, H8, H9, Hk⟩
  iapply wp_load_owns $$ H4
  iintro H4
  rw [show (VecWindow.window ws ![0, 0] S16x112.size inb_S16x112_S16x112_0_0) = ws from
    funext fun y => congrArg ws (Rect.emb_unit_full _ y)]
  iapply wp_rollW c arg3 arg9 harg9 w ws W _
  isplitl [H3]; · iexact H3
  isplitl [H9]; · iexact H9
  iintro H3 H9
  unfold rollM
  iapply wp_rep (c := (c : Thread nD τ)) (invM c arg5 arg6 arg7 arg8 arg9 i xb (valW w ws) b S)
    (fun m hm K => wp_unitM c arg5 arg6 harg6 arg7 arg8 arg9 i xb (valW w ws) b S m hm K) 6 0 (Nat.le_refl 6) _
  isplitl [H5 H6 H7 H8 H9]
  · unfold invM
    isplitl [H8]; · iexact H8
    isplitl [H9]; · iexact H9
    isplitl [H5]; · iexact H5
    isplitl [H6]
    · rw [Nat.zero_mul]
      iapply filled_zero; iexact H6
    iexact H7
  unfold invM
  iintro ⟨H8, H9, H5, H6, H7⟩
  rw [wp_pure]
  iapply fupd_intro
  ihave H6 := filled_all (c : Thread nD τ) arg6 _ _ _ (fun y => by
    have h0 : (y 0).val < 1536 := (y 0).isLt
    have h1 : (y 1).val < 512 := (y 1).isLt
    unfold ordC; omega) $$ H6
  iapply Hk $$ H3 H4 H5 H6 H7 H8 H9

/-- The first grid point: `x` dequantised and the scales cleared first. -/
theorem wp_rollInit (x : Vec F S1536x3584 .i8) (xs : Vec F S48x112 .f32) (S : Vec F S48x640 .f32) (X : Vec F S1536x3584 .bf16)
    (K : Prog (TpuEff nD τ sig (Elt F) Λ₀ .tc) PUnit) :
    (iprop(owns (c : Thread nD τ) arg1 fullShare x ∗ owns (c : Thread nD τ) arg2 fullShare xs
        ∗ owns (c : Thread nD τ) arg7 fullShare S ∗ owns (c : Thread nD τ) arg8 fullShare X
        ∗ (owns (c : Thread nD τ) arg1 fullShare x -∗ owns (c : Thread nD τ) arg2 fullShare xs
          -∗ owns (c : Thread nD τ) arg7 fullShare (broadcast S48x640 (Scalar.ofBits .f32 0x00000000#32))
          -∗ owns (c : Thread nD τ) arg8 fullShare (valX x xs)
          -∗ wp frame (wpE defs 𝒱 (c : Thread nD τ) bd) E K Q)) : sProp 𝕄)
      ⊢ wp frame (wpE defs 𝒱 (c : Thread nD τ) bd) E (rollInit arg1 arg2 arg7 arg8 harg8 K) Q := by
  unfold rollInit
  iintro ⟨H1, H2, H7, H8, Hk⟩
  iapply wp_load_owns $$ H2
  iintro H2
  rw [show (VecWindow.window xs ![0, 0] S48x112.size inb_S48x112_S48x112_0_0) = xs from
    funext fun y => congrArg xs (Rect.emb_unit_full _ y)]
  iapply wp_rollX c arg1 arg8 harg8 x xs X _
  isplitl [H1]; · iexact H1
  isplitl [H8]; · iexact H8
  iintro H1 H8
  iapply wp_load_owns $$ H7
  iintro H7
  iapply wp_store_owns $$ H7
  iintro H7
  rw [show VecWindow.put S ![0, 0] S48x640.size (broadcast S48x640 (Scalar.ofBits .f32 0x00000000#32)) = (broadcast S48x640 (Scalar.ofBits (F := F) .f32 0x00000000#32))
    from funext fun y => put_const S ![0, 0] S48x640.size _ y (Fin.forall_fin_two.2 ⟨⟨Nat.zero_le _, (Nat.zero_add _).symm ▸ (y 0).isLt⟩, ⟨Nat.zero_le _, (Nat.zero_add _).symm ▸ (y 1).isLt⟩⟩)]
  iapply Hk $$ H1 H2 H7 H8

end Rules

end Cert.KernelIdeal.Roll

end
-- ==== Proof.Run.lean ====
/- The kernel's run over any float instance: the proof data (what every window and the two scratch arrays hold after each
   grid point), the body's triple at a point, and the whole run with the arrays it leaves named. -/
module

public import proofs.«01_k».proof.Proof.RollEq
public import proofs.«01_k».proof.Proof.Body
public import proofs.«01_k».proof.Proof.Gen.KernelIdeal
public import proofs.«01_k».proof.Proof.Gen.KernelIdeal.Frame

@[expose] public section

noncomputable section

namespace Cert.KernelIdeal.Hand

open Cert.KernelIdeal Cert.KernelIdeal.Gen Cert.KernelIdeal.Roll
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the arrays hold -/

/-- The first grid point. -/
abbrev t0 : Fin cfg0.N := ⟨0, by decide⟩

/-- The dequantised `x`. -/
def xbAll (c : Dev nD) : Vec F S1536x3584 .bf16 := valX (iblk m c 0 t0) (iblk m c 1 t0)
/-- The activated product of grid point `t`, by row tiles. -/
def zAt (c : Dev nD) (t : Fin cfg0.N) : (k : ℕ) → k < 6 → FVec F S256x512 .f32 :=
  valZ (xbAll m c) (valW (iblk m c 2 t) (iblk m c 3 t)) (iblk m c 4 t)
/-- The scales before grid point `n`. -/
def accS (c : Dev nD) : ℕ → Vec F S48x640 .f32
  | 0 => broadcast S48x640 (Scalar.ofBits .f32 0x00000000#32)
  | n + 1 => if h : n < cfg0.N then valS (grid0.coords ⟨n, h⟩) (zAt m c ⟨n, h⟩) (accS c n) 6 else accS c n

theorem accS_succ (c : Dev nD) (t : Fin cfg0.N) : accS m c (t.val + 1) = valS (grid0.coords t) (zAt m c t) (accS m c t.val) 6 := by
  rw [accS, dif_pos t.2]

/-! ## The proof data -/

/-- What is held between grid points: at first nothing known of the scratch arrays; from the second point on, the dequantised `x`. -/
def PhiAt (c : Dev nD) (n : ℕ) : sProp 𝕄 :=
  if n = 0 then Pipeline.ΦA spec0 c
  else iprop((owns (c : Thread nD τ) (Memref.whole cc0_scratch0) fullShare (xbAll m c)
    ∗ (∃ f, owns (c : Thread nD τ) (Memref.whole cc0_scratch1) fullShare f)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => valC (zAt m c t)
    | ⟨6, _⟩ => accS m c (t.val + 1)
  Φ t := PhiAt m c t.val
  q _ := fullShare
  owed _ := 0

theorem A_eq (c : Dev nD) (w : Fin cfg0.W) : (dats m 0 c).A w = V m c (Pipeline.arrRef spec0 w) := rfl

theorem isFirst_zero (t : Fin cfg0.N) (h : t.val = 0) : isFirst (grid0.coords t) = 1#1 :=
  (by decide +kernel : ∀ t : Fin grid0.N, t.val = 0 → isFirst (grid0.coords t) = 1#1) t h
theorem isFirst_pos (t : Fin cfg0.N) (h : t.val ≠ 0) : ¬ isFirst (grid0.coords t) = 1#1 :=
  (by decide +kernel : ∀ t : Fin grid0.N, t.val ≠ 0 → ¬ isFirst (grid0.coords t) = 1#1) t h

theorem before6_pos (c : Dev nD) (t : Fin cfg0.N) (h : t.val ≠ 0) (d) : (dats m 0 c).before 6 t d = accS m c t.val := by
  rw [(dats m 0 c).before_out_kept 6 rfl t h (by
    have hn := (flush0_6 ⟨t.val - 1, Nat.lt_of_le_of_lt (Nat.sub_le _ _) t.isLt⟩).not.mpr (by
      have := t.isLt; have e : cfg0.N = 37 := N_0; show ¬ (t.val - 1) % 37 = 36; omega)
    simpa using hn) (fun _ => rfl) (fun _ _ => rfl)]
  show accS m c (t.val - 1 + 1) = _
  rw [Nat.sub_add_cancel (Nat.one_le_iff_ne_zero.mpr h)]

/-! ## The body at a point -/

/-- The stagings at the point, one by one. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    pre m c t ⊢ wp frame (wpE (defs₀ (F := F)) Variants.none (c : Thread nD τ) none) Set.univ (bodyAt0 t) (fun _ => post m c t) := by
  unfold pre bodyAt0
  rw [body_eq]
  unfold rollBody
  simp only [before0_0_of m (dats m 0 c) rfl (fun _ => rfl), before0_1_of m (dats m 0 c) rfl (fun _ => rfl), before0_2_of m (dats m 0 c) rfl (fun _ => rfl),
    before0_3_of m (dats m 0 c) rfl (fun _ => rfl), before0_4_of m (dats m 0 c) rfl (fun _ => rfl)]
  by_cases h : t.val = 0
  · rw [if_pos (isFirst_zero t h), show (dats m 0 c).Φ t.castSucc = Pipeline.ΦA spec0 c from if_pos h]
    unfold Pipeline.ΦA
    rw [scopedRest0_eq]
    simp only [← owns_whole]
    have ht : t = t0 := Fin.ext h
    iintro ⟨⟨⟨⟨%f8, H8⟩, ⟨%f9, H9⟩⟩, Hg⟩, HO, ⟨%d0, H0⟩, ⟨%d1, H1⟩, ⟨%d2, H2⟩, ⟨%d3, H3⟩, ⟨%d4, H4⟩, ⟨%d5, H5⟩, ⟨%d6, H6⟩⟩
    iapply wp_rollInit c _ _ _ _ _ (iblk m c 0 t) (iblk m c 1 t) _ f8 _
    isplitl [H0]; · iexact H0
    isplitl [H1]; · iexact H1
    isplitl [H6]; · iexact H6
    isplitl [H8]; · iexact H8
    iintro H0 H1 H6 H8
    iapply wp_rollStep c _ _ _ _ _ _ _ _ _ (grid0.coords t) (xbAll m c) (iblk m c 2 t) (iblk m c 3 t) (iblk m c 4 t)
      (broadcast S48x640 (Scalar.ofBits .f32 0x00000000#32)) _ f9
    isplitl [H2]; · iexact H2
    isplitl [H3]; · iexact H3
    isplitl [H4]; · iexact H4
    isplitl [H5]; · iexact H5
    isplitl [H6]; · iexact H6
    isplitl [H8]
    · unfold xbAll; subst ht; iexact H8
    isplitl [H9]; · iexact H9
    iintro H2 H3 H4 H5 H6 H8 H9
    unfold post
    rw [show (dats m 0 c).Φ t.succ = PhiAt m c (t.val + 1) from rfl]
    unfold PhiAt
    rw [if_neg (Nat.succ_ne_zero _), show (dats m 0 c).after 6 t = accS m c (t.val + 1) from rfl, accS_succ, h]
    isplitl [H8 H9 Hg]
    · isplitl [H8 H9]
      · isplitl [H8]; · iexact H8
        iexists _; iexact H9
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  · rw [if_neg (isFirst_pos t h), show (dats m 0 c).Φ t.castSucc = PhiAt m c t.val from rfl]
    unfold PhiAt
    rw [if_neg h]
    simp only [before6_pos m c t h]
    iintro ⟨⟨⟨H8, ⟨%f9, H9⟩⟩, Hg⟩, HO, ⟨%d0, H0⟩, ⟨%d1, H1⟩, ⟨%d2, H2⟩, ⟨%d3, H3⟩, ⟨%d4, H4⟩, ⟨%d5, H5⟩, ⟨%d6, H6⟩⟩
    iapply wp_rollStep c _ _ _ _ _ _ _ _ _ (grid0.coords t) (xbAll m c) (iblk m c 2 t) (iblk m c 3 t) (iblk m c 4 t)
      (accS m c t.val) _ f9
    isplitl [H2]; · iexact H2
    isplitl [H3]; · iexact H3
    isplitl [H4]; · iexact H4
    isplitl [H5]; · iexact H5
    isplitl [H6]; · iexact H6
    isplitl [H8]; · iexact H8
    isplitl [H9]; · iexact H9
    iintro H2 H3 H4 H5 H6 H8 H9
    unfold post
    rw [show (dats m 0 c).Φ t.succ = PhiAt m c (t.val + 1) from rfl]
    unfold PhiAt
    rw [if_neg (Nat.succ_ne_zero _), show (dats m 0 c).after 6 t = accS m c (t.val + 1) from rfl, accS_succ]
    isplitl [H8 H9 Hg]
    · isplitl [H8 H9]
      · isplitl [H8]; · iexact H8
        iexists _; iexact H9
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The run, every array named: the windows' arrays by the proof data, the rest by the host lines around them; the counters end at zero. -/
theorem run_all : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 (defs₀ (F := F)) Variants.none m ρ main
    (fun c => (body_obligation m c).loose) (fun c => (dats m 0 c).share_full fun _ => rfl) (fun _ _ => rfl)
    (V0 m) [hostOps1] sfx_sub sfx_fresh sfx_keeps (hmain m Variants.none) (fun c w => rfl)
    (fun c => .rfl) (fun c => by
      show PhiAt m c 37 ⊢ _
      unfold PhiAt Pipeline.ΦA
      rw [if_neg (by decide), scopedRest0_eq]
      simp only [← owns_whole]
      iintro ⟨⟨H8, H9⟩, Hg⟩
      isplitl [H8 H9]
      · isplitl [H8]; · iexists _; iexact H8
        iexact H9
      iexact Hg) _ fun _ h => h

/-- The arguments end as launched and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ hh => ⟨fun c => have h := hh.1;
     ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩, hh.2⟩) (run_all m ρ)

end Cert.KernelIdeal.Hand

end
-- ==== Proof.Quiet.lean ====
/- The floating-point kernel and the one read over the ideal numbers are one program at each float instance: what the run says of one it says of the other. -/
module

public import proofs.«01_k».proof.Proof.Run
public import proofs.«01_k».proof.Proof.Gen.Kernel
public import Idealize.ShloMosaic.Lib.Pipeline.Regions

@[expose] public section

noncomputable section

namespace Cert.Kernel.Hand

open Idealize.ShloMosaic Idealize.SL.Sem

variable {F : FTy → Type} [FloatOps F]

theorem main_eq : Cert.Kernel.main (F := F) = Cert.KernelIdeal.main (F := F) := by chain_rfl
theorem run_eq (σ Q) : θ_run (Cert.Kernel.defs (F := F)) (onTc (τ := Cert.Kernel.τ) (Cert.Kernel.main (F := F))) σ Q
    = θ_run (Cert.KernelIdeal.defs (F := F)) (onTc (τ := Cert.KernelIdeal.τ) (Cert.KernelIdeal.main (F := F))) σ Q := by chain_rfl

end Cert.Kernel.Hand

end
-- ==== Proof.Lanes.lean ====
/- The kernel's pure values read at an index, over any float instance: lane numbers become arithmetic on naturals. -/
module

public import proofs.«01_k».proof.Proof.Body
public import Idealize.ShloMosaic.Lib.Pointwise

@[expose] public section

noncomputable section

namespace Cert.KernelIdeal.Roll

open Idealize.ShloMosaic
open Shapes1.Facts₀ Shapes2.Facts₀ Shapes3.Facts₀ Shapes4.Facts₀ Shapes5.Facts₀

/-! ## Lane arithmetic -/

/-- One element's shape. -/
abbrev S0 : Shape := ⟨0, ![]⟩
/-- The only index of it. -/
abbrev i0 : S0.Idx := fun a => a.elim0
/-- The kernel's lane arithmetic on one lane number. -/
def fdiv1 (x d : BitVec 32) : BitVec 32 := fdiv (s := S0) (fun _ => x) d (by decide) i0
def fmod1 (x d : BitVec 32) : BitVec 32 := fmod (s := S0) (fun _ => x) d (by decide) i0
def wrap1 (x : BitVec 32) : BitVec 32 := wrap (s := S0) (fun _ => x) i0

section
variable {s : Shape}
theorem fdiv_apply (x : IVec s 32) (d : BitVec 32) (h) (j : s.Idx) : fdiv x d h j = fdiv1 (x j) d := rfl
theorem fmod_apply (x : IVec s 32) (d : BitVec 32) (h) (j : s.Idx) : fmod x d h j = fmod1 (x j) d := rfl
theorem wrap_apply (x : IVec s 32) (j : s.Idx) : wrap x j = wrap1 (x j) := rfl
end

theorem lane_exp : ∀ lt < 28, ∀ l < 128, (wrap1 (BitVec.ofNat 32 (4 * lt) + fdiv1 (BitVec.ofNat 32 l) 32#32)).toNat % 128 = 4 * lt + l / 32 := by
  decide +kernel
theorem lane_xor (k : ℕ) (hk : k < 5) : ∀ l < 128, (wrap1 (BitVec.ofNat 32 l ^^^ BitVec.ofNat 32 (2 ^ k))).toNat % 128 = l ^^^ 2 ^ k := by
  revert k; decide +kernel
theorem lane_tile : ∀ l < 128, fmod1 (fdiv1 (BitVec.ofNat 32 l) 4#32) 4#32 = BitVec.ofNat 32 (l / 4 % 4) := by
  decide +kernel
theorem lane_seg : ∀ l < 128, (wrap1 (fmod1 (BitVec.ofNat 32 l) 4#32 * 32#32)).toNat % 128 = 32 * (l % 4) := by
  decide +kernel
theorem lane_grp : ∀ n < 37, ∀ l < 128, (fdiv1 (BitVec.ofNat 32 l) 16#32 = nMod (BitVec.ofNat 32 n)) ↔ l / 16 = n % 8 := by
  decide +kernel

/-- A lane counter at an index is the index's lane. -/
theorem iota_lane {n : ℕ} (h : (⟨2, ![n, 128]⟩ : Shape).Iotas .tc 32 [1]) (r : Fin n) (l : Fin 128) :
    iota .tc ⟨2, ![n, 128]⟩ 32 [1] h (ix2 r l) = BitVec.ofNat 32 l.val :=
  congrArg (BitVec.ofNat 32) (by show 0 * 128 + l.val = l.val; omega)

/-- A gather along the lanes reads the row at the lane its index names. -/
theorem gather_lane {α : Type} {n : ℕ} (x : (⟨2, ![n, 128]⟩ : Shape).Idx → α) (idx : IVec ⟨2, ![n, 128]⟩ 32) (r : Fin n) (l : Fin 128)
    (k : ℕ) (hk : k < 128) (e : (idx (ix2 r l)).toNat % 128 = k) : dynamicGather (1 : Fin 2) x idx (ix2 r l) = x (ix2 r ⟨k, hk⟩) := by
  subst e
  exact congrArg x (funext (Fin.forall_fin_two.2 ⟨rfl, rfl⟩))

/-- A choice by equality of two words. -/
theorem select_eq {α : Type} {a b : BitVec 32} {x y : α} {p : Prop} [Decidable p] (h : a = b ↔ p) :
    Scalar.select (IntOp.cmpi .eq a b) x y = if p then x else y := by
  have e : IntOp.cmpi .eq a b = BitVec.ofBool (a == b) := rfl
  rw [e, Scalar.select_ofBool]
  by_cases hp : p
  · rw [if_pos hp, if_pos (beq_iff_eq.2 (h.2 hp))]
  · rw [if_neg hp, if_neg fun k => hp (h.1 (beq_iff_eq.1 k))]

variable {F : FTy → Type} [FloatOps F] [Facts]
theorem lane8_apply (r : Fin 8) (l : Fin 128) : lane8 (ix2 r l) = BitVec.ofNat 32 l.val := iota_lane _ r l

theorem padX_apply (v : Vec F S48x112 .f32) (r : Fin 48) (l : Fin 128) (h : l.val < 112) : padX v (ix2 r l) = v (ix2 r ⟨l.val, h⟩) := by
  unfold padX
  pointwise
  simp [h]
theorem padW_apply (v : Vec F S16x112 .f32) (r : Fin 16) (l : Fin 128) (h : l.val < 112) : padW v (ix2 r l) = v (ix2 r ⟨l.val, h⟩) := by
  unfold padW
  pointwise
  simp [h]

theorem expX_apply (xs : FVec F S48x128 .f32) (lt : ℕ) (hl : lt < 28) (r : Fin 48) (l : Fin 128) :
    expX xs lt (ix2 r l) = xs (ix2 r ⟨4 * lt + l.val / 32, by omega⟩) := by
  unfold expX
  rw [shapeCast_shapeCast]
  refine gather_lane xs _ r l _ _ ?_
  rw [wrap_apply]
  show (wrap1 (BitVec.ofNat 32 (4 * lt) + fdiv1 (iota .tc _ 32 [1] _ (ix2 r l)) 32#32)).toNat % 128 = _
  rw [iota_lane]
  exact lane_exp lt hl l.val l.2
theorem expW_apply (xs : FVec F S16x128 .f32) (lt : ℕ) (hl : lt < 28) (r : Fin 16) (l : Fin 128) :
    expW xs lt (ix2 r l) = xs (ix2 r ⟨4 * lt + l.val / 32, by omega⟩) := by
  unfold expW
  rw [shapeCast_shapeCast]
  refine gather_lane xs _ r l _ _ ?_
  rw [wrap_apply]
  show (wrap1 (BitVec.ofNat 32 (4 * lt) + fdiv1 (iota .tc _ 32 [1] _ (ix2 r l)) 32#32)).toNat % 128 = _
  rw [iota_lane]
  exact lane_exp lt hl l.val l.2

theorem dq_apply (codes : IVec S32x128 8) (row : FVec F S1x128 .f32) (i : Fin 32) (l : Fin 128) :
    dq codes row (ix2 i l) = FloatOps.mulf (FloatOps.sitofp .bf16 (codes (ix2 i l))) (FloatOps.truncf .bf16 bitsLt_bf16_f32 (row (ix2 0 l))) := by
  unfold dq
  pointwise

theorem take8_apply (v : FVec F S8x128 .f32) (x : IVec S8x128 32) (h : Fin 8) (l : Fin 128) (k : ℕ) (hk : k < 128)
    (e : (wrap1 (x (ix2 h l))).toNat % 128 = k) : take8 v x (ix2 h l) = v (ix2 h ⟨k, hk⟩) := by
  unfold take8
  rw [shapeCast_shapeCast]
  exact gather_lane v _ h l k hk e

theorem bfly_apply (k : ℕ) (hk : k < 5) (v : FVec F S8x128 .f32) (h : Fin 8) (l : Fin 128) (l' : ℕ) (hl' : l' < 128) (e : l.val ^^^ 2 ^ k = l') :
    bfly (BitVec.ofNat 32 (2 ^ k)) v (ix2 h l) = FloatOps.maximumf (v (ix2 h l)) (v (ix2 h ⟨l', hl'⟩)) := by
  unfold bfly
  refine congrArg (FloatOps.maximumf (v (ix2 h l))) (take8_apply v _ h l l' hl' ?_)
  show (wrap1 (lane8 (ix2 h l) ^^^ BitVec.ofNat 32 (2 ^ k))).toNat % 128 = l'
  rw [lane8_apply, lane_xor k hk l.val l.2, e]

theorem srowStep_apply (t : ℕ) (ht : t < 4) (sc old : FVec F S8x128 .f32) (h : Fin 8) (l : Fin 128) :
    srowStep t sc old (ix2 h l) = if l.val / 4 % 4 = t then sc (ix2 h ⟨32 * (l.val % 4), by omega⟩) else old (ix2 h l) := by
  have e2 : take8 sc (muli (fmod lane8 4#32 broadcasts_S8x128_S8x128) (broadcast S8x128 32#32)) (ix2 h l) = sc (ix2 h ⟨32 * (l.val % 4), by omega⟩) := by
    refine take8_apply sc _ h l _ _ ?_
    show (wrap1 (fmod1 (lane8 (ix2 h l)) 4#32 * 32#32)).toNat % 128 = _
    rw [lane8_apply, lane_seg l.val l.2]
  unfold srowStep
  show Scalar.select (IntOp.cmpi .eq (fmod1 (fdiv1 (lane8 (ix2 h l)) 4#32) 4#32) (BitVec.ofNat 32 t)) _ _ = _
  rw [e2, lane8_apply, lane_tile l.val l.2]
  refine select_eq ⟨fun k => ?_, fun k => by rw [k]⟩
  have := congrArg BitVec.toNat k
  rw [BitVec.toNat_ofNat, BitVec.toNat_ofNat] at this
  omega

theorem srowOf_apply (a : FVec F S8x512 .f32) (h : Fin 8) (l : Fin 128) :
    srowOf a (ix2 h l) = scT a (l.val / 4 % 4) (Nat.mod_lt _ (by decide)) (ix2 h ⟨32 * (l.val % 4), by omega⟩) := by
  unfold srowOf
  simp only [srowStep_apply _ (by decide : 0 < 4), srowStep_apply _ (by decide : 1 < 4), srowStep_apply _ (by decide : 2 < 4), srowStep_apply _ (by decide : 3 < 4)]
  have hq : l.val / 4 % 4 < 4 := Nat.mod_lt _ (by decide)
  have key : ∀ (q : ℕ) (hq : q < 4) (i : S8x128.Idx) (z : F .f32), (if q = 3 then scT a 3 (by decide) i else if q = 2 then scT a 2 (by decide) i
      else if q = 1 then scT a 1 (by decide) i else if q = 0 then scT a 0 (by decide) i else z) = scT a q hq i := by
    intro q hq i z
    interval_cases q <;> rfl
  exact key _ hq _ _

theorem merge_apply (n : ℕ) (hn : n < 37) (srow : FVec F S8x128 .f32) (old : Vec F S8x128 .f32) (h : Fin 8) (l : Fin 128) :
    merge (BitVec.ofNat 32 n) srow old (ix2 h l) = if l.val / 16 = n % 8 then srow (ix2 h l) else old (ix2 h l) := by
  unfold merge
  rw [shapeCast_self]
  show Scalar.select (IntOp.cmpi .eq (fdiv1 (lane8 (ix2 h l)) 16#32) (nMod (BitVec.ofNat 32 n))) _ _ = _
  rw [lane8_apply]
  exact select_eq (lane_grp n hn l.val l.2)

/-! ## Windows -/

/-- A window at an index is the vector at any index with the shifted coordinates. -/
theorem window_apply {s : Shape} {β : Type} (x : s.Idx → β) (off size : Fin s.rank → ℕ) (inb) (y : (⟨s.rank, size⟩ : Shape).Idx) (z : s.Idx)
    (h : ∀ a, (z a).val = off a + (y a).val) : VecWindow.window x off size inb y = x z := by
  refine congrArg x (funext fun a => Fin.ext ?_)
  show off a + 1 * (y a).val = (z a).val
  rw [h a]; omega

/-- A tiled vector at an index: the block its coordinates fall in, at what is left of them. -/
theorem tile_apply {R C NL NR : ℕ} {β : Type} (hR : R ≤ 32 * NR) (hC : C ≤ 128 * NL) (P : Fin NL → Fin NR → S32x128.Idx → β) (r : Fin R) (k : Fin C) :
    tile hR hC P (ix2 r k) = P ⟨k.val / 128, by omega⟩ ⟨r.val / 32, by omega⟩ (ix2 ⟨r.val % 32, by omega⟩ ⟨k.val % 128, by omega⟩) :=
  congrArg (P _ _) (funext (Fin.forall_fin_two.2 ⟨rfl, rfl⟩))

theorem valX_apply (x : Vec F S1536x3584 .i8) (xs : Vec F S48x112 .f32) (r : Fin 1536) (k : Fin 3584) :
    valX x xs (ix2 r k) = FloatOps.mulf (FloatOps.sitofp .bf16 (x (ix2 r k)))
      (FloatOps.truncf .bf16 bitsLt_bf16_f32 (xs (ix2 ⟨r.val / 32, by omega⟩ ⟨k.val / 32, by omega⟩))) := by
  unfold valX
  rw [tile_apply]
  unfold blkX
  rw [shapeCast_self, dq_apply]
  congr 2
  · refine (congrFun (shapeCast_self (s := S32x128) _ _) _).trans ?_
    exact window_apply x _ _ _ _ (ix2 r k) (Fin.forall_fin_two.2
      ⟨by show r.val = 32 * (r.val / 32) + r.val % 32; omega, by show k.val = 128 * (k.val / 128) + k.val % 128; omega⟩)
  · have e : ∀ (v : FVec F S48x128 .f32) (h) (l : Fin 128), extractStridedSlice S1x128 ![r.val / 32, 0] v h (ix2 0 l) = v (ix2 ⟨r.val / 32, by omega⟩ l) := by
      intro v h l; pointwise
    rw [e, expX_apply _ _ (by show k.val / 128 < 28; omega), padX_apply _ _ _ (by show 4 * (k.val / 128) + k.val % 128 / 32 < 112; omega)]
    exact congrArg xs (congrArg (ix2 _) (Fin.ext (by show 4 * (k.val / 128) + k.val % 128 / 32 = k.val / 32; omega)))

theorem valW_apply (w : Vec F S512x3584 .i8) (ws : Vec F S16x112 .f32) (r : Fin 512) (k : Fin 3584) :
    valW w ws (ix2 r k) = FloatOps.mulf (FloatOps.sitofp .bf16 (w (ix2 r k)))
      (FloatOps.truncf .bf16 bitsLt_bf16_f32 (ws (ix2 ⟨r.val / 32, by omega⟩ ⟨k.val / 32, by omega⟩))) := by
  unfold valW
  rw [tile_apply]
  unfold blkW
  rw [shapeCast_self, dq_apply]
  congr 2
  · exact window_apply w _ _ _ _ (ix2 r k) (Fin.forall_fin_two.2
      ⟨by show r.val = 32 * (r.val / 32) + r.val % 32; omega, by show k.val = 128 * (k.val / 128) + k.val % 128; omega⟩)
  · have e : ∀ (v : FVec F S16x128 .f32) (h) (l : Fin 128), extractStridedSlice S1x128 ![r.val / 32, 0] v h (ix2 0 l) = v (ix2 ⟨r.val / 32, by omega⟩ l) := by
      intro v h l; pointwise
    rw [e, expW_apply _ _ (by show k.val / 128 < 28; omega), padW_apply _ _ _ (by show 4 * (k.val / 128) + k.val % 128 / 32 < 112; omega)]
    exact congrArg ws (congrArg (ix2 _) (Fin.ext (by show 4 * (k.val / 128) + k.val % 128 / 32 = k.val / 32; omega)))

theorem valC_apply (Z : (m : ℕ) → m < 6 → FVec F S256x512 .f32) (r : Fin 1536) (k : Fin 512) :
    valC Z (ix2 r k) = codesOf (Z (r.val / 32 / 8) (by omega)) (scT (rowMax (Z (r.val / 32 / 8) (by omega))) (k.val / 128) (by omega)) (k.val / 128) (by omega)
      (r.val / 32 % 8) (by omega) (ix2 ⟨r.val % 32, by omega⟩ ⟨k.val % 128, by omega⟩) := by
  unfold valC
  rw [tile_apply]
  rfl

/-! ## The scales, as they accumulate -/

theorem coords_val (t : Fin grid0.N) : (grid0.coords t 0).val = t.val :=
  (by decide +kernel : ∀ t : Fin grid0.N, (grid0.coords t 0).val = t.val) t
theorem offS_val (t : Fin grid0.N) : (Scalar.indexCast (k0_mult1 (grid0.coords t))).toNat = 128 * (t.val / 8) :=
  (by decide +kernel : ∀ t : Fin grid0.N, (Scalar.indexCast (k0_mult1 (grid0.coords t))).toNat = 128 * (t.val / 8)) t

/-- The scale row `R`, lane `k` as grid point `k / 16` makes it. -/
def scAt (Z : (m : ℕ) → m < 6 → FVec F S256x512 .f32) (R : Fin 48) (k : Fin 640) : F .f32 :=
  srowOf (rowMax (Z (R.val / 8) (by omega))) (ix2 ⟨R.val % 8, by omega⟩ ⟨k.val % 128, by omega⟩)

theorem valS_apply (t : Fin grid0.N) (Z : (m : ℕ) → m < 6 → FVec F S256x512 .f32) (S : Vec F S48x640 .f32) (R : Fin 48) (k : Fin 640) :
    ∀ m ≤ 6, valS (grid0.coords t) Z S m (ix2 R k) = if R.val / 8 < m ∧ k.val / 16 = t.val then scAt Z R k else S (ix2 R k)
  | 0, _ => by rw [if_neg fun h => absurd h.1 (Nat.not_lt_zero _)]; rfl
  | m + 1, hm => by
    have ih := valS_apply t Z S R k m (by omega)
    have ht : t.val < 37 := t.2
    rw [valS, dif_pos (by omega : m < 6)]
    unfold VecWindow.put
    have hoff : ∀ a, offS m (grid0.coords t) a = (![8 * m, 128 * (t.val / 8)] : Fin 2 → ℕ) a := by
      unfold offS; rw [offS_val]; exact fun a => rfl
    by_cases hc : ∀ a, offS m (grid0.coords t) a ≤ (ix2 R k a).val ∧ (ix2 R k a).val < offS m (grid0.coords t) a + S8x128.size a
    · rw [dif_pos hc]
      have h0 := hc 0
      have h1 := hc 1
      rw [hoff] at h0 h1
      change 8 * m ≤ R.val ∧ R.val < 8 * m + 8 at h0
      change 128 * (t.val / 8) ≤ k.val ∧ k.val < 128 * (t.val / 8) + 128 at h1
      have hl : Rect.unitLocal (ix2 R k) hc = (ix2 (⟨R.val % 8, by omega⟩ : Fin 8) (⟨k.val % 128, by omega⟩ : Fin 128) : S8x128.Idx) := by
        refine funext (Fin.forall_fin_two.2 ⟨Fin.ext ?_, Fin.ext ?_⟩)
        · show R.val - offS m (grid0.coords t) 0 = R.val % 8
          rw [hoff]; show R.val - 8 * m = R.val % 8; omega
        · show k.val - offS m (grid0.coords t) 1 = k.val % 128
          rw [hoff]; show k.val - 128 * (t.val / 8) = k.val % 128; omega
      rw [hl, coords_val, merge_apply _ ht, window_apply _ _ _ _ _ (ix2 R k) (Fin.forall_fin_two.2 ⟨?_, ?_⟩), ih]
      · have e : m = R.val / 8 := by omega
        subst e
        by_cases hk : k.val % 128 / 16 = t.val % 8
        · rw [if_pos hk, if_pos ⟨by omega, by omega⟩]; rfl
        · rw [if_neg hk, if_neg fun h => hk (by omega), if_neg fun h => absurd h.1 (by omega)]
      · rw [hoff]; show R.val = 8 * m + R.val % 8; omega
      · rw [hoff]; show k.val = 128 * (t.val / 8) + k.val % 128; omega
    · rw [dif_neg hc, ih]
      refine if_congr ⟨fun h => ⟨by omega, h.2⟩, fun h => ⟨?_, h.2⟩⟩ rfl rfl
      by_contra hlt
      refine hc (Fin.forall_fin_two.2 ⟨?_, ?_⟩)
      · rw [hoff]; show 8 * m ≤ R.val ∧ R.val < 8 * m + 8; omega
      · rw [hoff]; show 128 * (t.val / 8) ≤ k.val ∧ k.val < 128 * (t.val / 8) + 128; omega

end Cert.KernelIdeal.Roll

end
-- ==== Proof.Arrays.lean ====
/- The kernel's arrays after its run: what each block reads, what each array ends holding. -/
module

public import proofs.«01_k».proof.Proof.Lanes
public import proofs.«01_k».proof.Proof.Run
public import Idealize.ShloMosaic.Lib.Pipeline.Value
public import Idealize.ShloMosaic.Lib.Claim

@[expose] public section

noncomputable section

namespace Cert.KernelIdeal.Hand

open Cert.KernelIdeal Cert.KernelIdeal.Gen Cert.KernelIdeal.Roll
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The input blocks -/

theorem idx0 (t : Fin cfg0.N) : win0_0.index t 0 = 0 ∧ win0_0.index t 1 = 0 :=
  (by decide +kernel : ∀ t : Fin grid0.N, win0_0.index t 0 = 0 ∧ win0_0.index t 1 = 0) t
theorem idx1 (t : Fin cfg0.N) : win0_1.index t 0 = 0 ∧ win0_1.index t 1 = 0 :=
  (by decide +kernel : ∀ t : Fin grid0.N, win0_1.index t 0 = 0 ∧ win0_1.index t 1 = 0) t
theorem idx2 (t : Fin cfg0.N) : win0_2.index t 0 = t.val ∧ win0_2.index t 1 = 0 :=
  (by decide +kernel : ∀ t : Fin grid0.N, win0_2.index t 0 = t.val ∧ win0_2.index t 1 = 0) t
theorem idx3 (t : Fin cfg0.N) : win0_3.index t 0 = t.val ∧ win0_3.index t 1 = 0 :=
  (by decide +kernel : ∀ t : Fin grid0.N, win0_3.index t 0 = t.val ∧ win0_3.index t 1 = 0) t
theorem idx4 (t : Fin cfg0.N) : win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0) t
theorem idx5 (t : Fin cfg0.N) : win0_5.index t 0 = 0 ∧ win0_5.index t 1 = t.val :=
  (by decide +kernel : ∀ t : Fin grid0.N, win0_5.index t 0 = 0 ∧ win0_5.index t 1 = t.val) t
theorem idx6 (t : Fin cfg0.N) : win0_6.index t 0 = 0 ∧ win0_6.index t 1 = 0 :=
  (by decide +kernel : ∀ t : Fin grid0.N, win0_6.index t 0 = 0 ∧ win0_6.index t 1 = 0) t

theorem iblk0_apply (c : Dev nD) (t : Fin cfg0.N) (r : Fin 1536) (k : Fin 3584) :
    (iblk m c 0 t : Vec F S1536x3584 .i8) (ix2 r k)
      = (m ((c : Thread nD τ).loc main_arg0) : Vec F S6x256x3584 .i8) (ix3 ⟨r.val / 256, by omega⟩ ⟨r.val % 256, by omega⟩ k) := by
  have e : ((cfg0.win 0).blk t).view.emb (ix2 r k) = (ix2 r k : S1536x3584.Idx) :=
    funext (Fin.forall_fin_two.2 ⟨Fin.ext (by show win0_0.index t 0 * 1536 + 1 * r.val = r.val; rw [(idx0 t).1]; omega),
      Fin.ext (by show win0_0.index t 1 * 3584 + 1 * k.val = k.val; rw [(idx0 t).2]; omega)⟩)
  show V m c main_v0 (((cfg0.win 0).blk t).view.emb (ix2 r k)) = _
  rw [e]
  entry_read
  refine shapeCast_apply _ _ _ _ ?_
  refine (rowMajor_val3 (ix3 (⟨r.val / 256, by omega⟩ : Fin 6) (⟨r.val % 256, by omega⟩ : Fin 256) k) 917504 3584 rfl rfl).trans (Eq.trans ?_ (rowMajor_val2 (ix2 r k) 3584 rfl).symm)
  show r.val / 256 * 917504 + r.val % 256 * 3584 + k.val = r.val * 3584 + k.val
  omega

theorem iblk1_apply (c : Dev nD) (t : Fin cfg0.N) (r : Fin 48) (k : Fin 112) :
    (iblk m c 1 t : Vec F S48x112 .f32) (ix2 r k)
      = (m ((c : Thread nD τ).loc main_arg1) : Vec F S6x8x112 .f32) (ix3 ⟨r.val / 8, by omega⟩ ⟨r.val % 8, by omega⟩ k) := by
  have e : ((cfg0.win 1).blk t).view.emb (ix2 r k) = (ix2 r k : S48x112.Idx) :=
    funext (Fin.forall_fin_two.2 ⟨Fin.ext (by show win0_1.index t 0 * 48 + 1 * r.val = r.val; rw [(idx1 t).1]; omega),
      Fin.ext (by show win0_1.index t 1 * 112 + 1 * k.val = k.val; rw [(idx1 t).2]; omega)⟩)
  show V m c main_v1 (((cfg0.win 1).blk t).view.emb (ix2 r k)) = _
  rw [e]
  entry_read
  refine shapeCast_apply _ _ _ _ ?_
  refine (rowMajor_val3 (ix3 (⟨r.val / 8, by omega⟩ : Fin 6) (⟨r.val % 8, by omega⟩ : Fin 8) k) 896 112 rfl rfl).trans (Eq.trans ?_ (rowMajor_val2 (ix2 r k) 112 rfl).symm)
  show r.val / 8 * 896 + r.val % 8 * 112 + k.val = r.val * 112 + k.val
  omega

theorem lt37 (t : Fin cfg0.N) : t.val < 37 := t.2

theorem iblk2_apply (c : Dev nD) (t : Fin cfg0.N) (r : Fin 512) (k : Fin 3584) :
    (iblk m c 2 t : Vec F S512x3584 .i8) (ix2 r k)
      = (m ((c : Thread nD τ).loc main_arg2) : Vec F S18944x3584 .i8) (ix2 ⟨t.val * 512 + r.val, by have := lt37 t; omega⟩ k) := by
  have e : ((cfg0.win 2).blk t).view.emb (ix2 r k) = (ix2 ⟨t.val * 512 + r.val, by have := lt37 t; omega⟩ k : S18944x3584.Idx) :=
    funext (Fin.forall_fin_two.2 ⟨Fin.ext (by show win0_2.index t 0 * 512 + 1 * r.val = t.val * 512 + r.val; rw [(idx2 t).1]; omega),
      Fin.ext (by show win0_2.index t 1 * 3584 + 1 * k.val = k.val; rw [(idx2 t).2]; omega)⟩)
  show V m c main_arg2 (((cfg0.win 2).blk t).view.emb (ix2 r k)) = _
  rw [e, V_main_arg2]

theorem iblk3_apply (c : Dev nD) (t : Fin cfg0.N) (r : Fin 16) (k : Fin 112) :
    (iblk m c 3 t : Vec F S16x112 .f32) (ix2 r k)
      = (m ((c : Thread nD τ).loc main_arg3) : Vec F S592x112 .f32) (ix2 ⟨t.val * 16 + r.val, by have := lt37 t; omega⟩ k) := by
  have e : ((cfg0.win 3).blk t).view.emb (ix2 r k) = (ix2 ⟨t.val * 16 + r.val, by have := lt37 t; omega⟩ k : S592x112.Idx) :=
    funext (Fin.forall_fin_two.2 ⟨Fin.ext (by show win0_3.index t 0 * 16 + 1 * r.val = t.val * 16 + r.val; rw [(idx3 t).1]; omega),
      Fin.ext (by show win0_3.index t 1 * 112 + 1 * k.val = k.val; rw [(idx3 t).2]; omega)⟩)
  show V m c main_arg3 (((cfg0.win 3).blk t).view.emb (ix2 r k)) = _
  rw [e, V_main_arg3]

theorem iblk4_apply (c : Dev nD) (t : Fin cfg0.N) (k : Fin 512) :
    (iblk m c 4 t : Vec F S1x1x512 .f32) (ix3 0 0 k)
      = (m ((c : Thread nD τ).loc main_arg4) : Vec F S18944 .f32) (ix1 ⟨t.val * 512 + k.val, by have := lt37 t; omega⟩) := by
  have ht := lt37 t
  have e : ((cfg0.win 4).blk t).view.emb (ix3 0 0 k) = (ix3 ⟨t.val, ht⟩ 0 k : S37x1x512.Idx) := by
    funext a; apply Fin.ext
    match a with
    | ⟨0, _⟩ => show win0_4.index t 0 * 1 + 1 * 0 = t.val; rw [(idx4 t).1]; omega
    | ⟨1, _⟩ => show win0_4.index t 1 * 1 + 1 * 0 = 0; rw [(idx4 t).2.1]
    | ⟨2, _⟩ => show win0_4.index t 2 * 512 + 1 * k.val = k.val; rw [(idx4 t).2.2]; omega
  show V m c main_v2 (((cfg0.win 4).blk t).view.emb (ix3 0 0 k)) = _
  rw [e]
  entry_read
  refine shapeCast_apply _ _ _ _ ?_
  refine (rowMajor_val1 (ix1 (⟨t.val * 512 + k.val, by omega⟩ : Fin 18944))).trans
    (Eq.trans ?_ (rowMajor_val3 (ix3 (⟨t.val, ht⟩ : Fin 37) (0 : Fin 1) k) 512 512 rfl rfl).symm)
  show t.val * 512 + k.val = t.val * 512 + 0 * 512 + k.val
  omega

/-! ## The codes' array -/

/-- The codes, from the blocks of them. -/
def codesArr (c : Dev nD) : Vec F S1536x18944 .i8 := fun i =>
  have h : (i 1).val < 18944 := (i 1).isLt
  valC (zAt m c ⟨(i 1).val / 512, by show _ < 37; omega⟩) (ix2 ⟨(i 0).val, (i 0).isLt⟩ ⟨(i 1).val % 512, by omega⟩)

theorem codesArr_block (c : Dev nD) (t : Fin cfg0.N) (r : Fin 1536) (k : Fin 512) (h : t.val * 512 + k.val < 18944) :
    codesArr m c (ix2 r ⟨t.val * 512 + k.val, h⟩) = valC (zAt m c t) (ix2 r k) := by
  have key : ∀ (t' : Fin cfg0.N) (k' : Fin 512), t' = t → k' = k → valC (zAt m c t') (ix2 r k') = valC (zAt m c t) (ix2 r k) := by
    intro t' k' h1 h2; rw [h1, h2]
  exact key _ _ (Fin.ext (by show (t.val * 512 + k.val) / 512 = t.val; omega)) (Fin.ext (by show (t.val * 512 + k.val) % 512 = k.val; omega))

theorem flushed5_eq (c : Dev nD) (t : Fin cfg0.N) (hf : (cfg0.win 5).flush t = true) :
    (dats m 0 c).flushed 5 t = ((cfg0.win 5).blk t).view.read (Elt F) (codesArr m c) := by
  have ht := lt37 t
  show (cfg0.win 5).cut (grid0.coords t) (valC (zAt m c t)) = _
  funext j
  have h0 : (j 0).val < 1536 := (j 0).isLt
  have h1 : (j 1).val < 512 := (j 1).isLt
  have e : ((cfg0.win 5).blk t).view.emb j = (ix2 ⟨(j 0).val, h0⟩ ⟨t.val * 512 + (j 1).val, by omega⟩ : S1536x18944.Idx) :=
    funext (Fin.forall_fin_two.2 ⟨Fin.ext (by show win0_5.index t 0 * 1536 + 1 * (j 0).val = (j 0).val; rw [(idx5 t).1]; omega),
      Fin.ext (by show win0_5.index t 1 * 512 + 1 * (j 1).val = t.val * 512 + (j 1).val; rw [(idx5 t).2]; omega)⟩)
  show _ = codesArr m c (((cfg0.win 5).blk t).view.emb j)
  rw [e]
  refine Eq.trans ?_ (codesArr_block m c t ⟨(j 0).val, h0⟩ ⟨(j 1).val, h1⟩ (by show t.val * 512 + (j 1).val < 18944; omega)).symm
  exact congrArg (valC (zAt m c t)) (funext (Fin.forall_fin_two.2 ⟨rfl, rfl⟩))

theorem final5 (c : Dev nD) : (dats m 0 c).arrAt 5 cfg0.N = codesArr m c :=
  (dats m 0 c).arrAt_eq_of_cover 5 (codesArr m c) (flushed5_eq m c) fun i => by
    have h0 : (i 0 : Nat) < 1536 := (i 0).isLt
    have h1 : (i 1 : Nat) < 18944 := (i 1).isLt
    let t : Fin cfg0.N := ⟨(i 1 : Nat) / 512, by show _ < 37; omega⟩
    refine ⟨t, flush0_5 t, ?_⟩
    show i ∈ ((View.whole main_v3_0).slice (win0_5.rect t)).set
    rw [View.set_slice_whole, Rect.mem_set_unit]
    have hx := idx5 t
    intro a
    match a with
    | ⟨0, _⟩ => show win0_5.index t 0 * 1536 ≤ (i 0 : Nat) ∧ (i 0 : Nat) < win0_5.index t 0 * 1536 + 1536
                rw [hx.1]; omega
    | ⟨1, _⟩ => show win0_5.index t 1 * 512 ≤ (i 1 : Nat) ∧ (i 1 : Nat) < win0_5.index t 1 * 512 + 512
                rw [hx.2]; show (i 1 : Nat) / 512 * 512 ≤ _ ∧ _ < (i 1 : Nat) / 512 * 512 + 512; omega

/-! ## The scales' array -/

theorem flushed6_eq (c : Dev nD) (t : Fin cfg0.N) (hf : (cfg0.win 6).flush t = true) :
    (dats m 0 c).flushed 6 t = ((cfg0.win 6).blk t).view.read (Elt F) (accS m c 37) := by
  have h36 : t.val + 1 = 37 := by have := (flush0_6 t).mp hf; have := lt37 t; omega
  show (cfg0.win 6).cut (grid0.coords t) (accS m c (t.val + 1)) = _
  rw [h36]
  funext j
  have h0 : (j 0).val < 48 := (j 0).isLt
  have h1 : (j 1).val < 640 := (j 1).isLt
  show accS m c 37 _ = accS m c 37 (((cfg0.win 6).blk t).view.emb j)
  refine congrArg (accS m c 37) (funext (Fin.forall_fin_two.2 ⟨Fin.ext ?_, Fin.ext ?_⟩))
  · show (j 0).val = win0_6.index t 0 * 48 + 1 * (j 0).val
    rw [(idx6 t).1]; omega
  · show (j 1).val = win0_6.index t 1 * 640 + 1 * (j 1).val
    rw [(idx6 t).2]; omega

theorem final6 (c : Dev nD) : (dats m 0 c).arrAt 6 cfg0.N = accS m c 37 :=
  (dats m 0 c).arrAt_eq_of_cover 6 (accS m c 37) (flushed6_eq m c) fun i => by
    have h0 : (i 0 : Nat) < 48 := (i 0).isLt
    have h1 : (i 1 : Nat) < 640 := (i 1).isLt
    let t : Fin cfg0.N := ⟨36, by decide⟩
    refine ⟨t, (flush0_6 t).mpr rfl, ?_⟩
    show i ∈ ((View.whole main_v3_1).slice (win0_6.rect t)).set
    rw [View.set_slice_whole, Rect.mem_set_unit]
    have hx := idx6 t
    intro a
    match a with
    | ⟨0, _⟩ => show win0_6.index t 0 * 48 ≤ (i 0 : Nat) ∧ (i 0 : Nat) < win0_6.index t 0 * 48 + 48
                rw [hx.1]; omega
    | ⟨1, _⟩ => show win0_6.index t 1 * 640 ≤ (i 1 : Nat) ∧ (i 1 : Nat) < win0_6.index t 1 * 640 + 640
                rw [hx.2]; omega

/-- The scales: after `n` points, every lane that the first `n` points own is the one its point makes. -/
theorem accS_apply (c : Dev nD) (R : Fin 48) (k : Fin 640) : ∀ (n : ℕ) (hn : n ≤ 37) (hk : k.val / 16 < n),
    accS m c n (ix2 R k) = scAt (zAt m c ⟨k.val / 16, Nat.lt_of_lt_of_le hk hn⟩) R k
  | n + 1, hn, hk => by
    rw [accS_succ m c ⟨n, hn⟩]
    refine (valS_apply (⟨n, hn⟩ : Fin grid0.N) _ _ R k 6 le_rfl).trans ?_
    by_cases h : k.val / 16 = n
    · subst h
      rw [if_pos ⟨by omega, rfl⟩]
    · rw [if_neg fun e => h e.2]
      exact accS_apply c R k n (by omega) (by omega)

/-! ## The results -/

/-- The windows' arrays after the run, by name. -/
theorem after_arr (c : Dev nD) (w : Fin cfg0.W) :
    Pipeline.withArrays (cfgs 0).spec c (V0 m c) (fun w => (dats m 0 c).arrAt w (cfgs 0).N) (Proc.devRef .tc (Pipeline.arrRef spec0 w)) = (dats m 0 c).arrAt w cfg0.N :=
  Pipeline.withArrays_arr spec0 (by decide) c _ _ w

theorem res4 (c : Dev nD) : Pipeline.afterTail₀ cfgs (dats m) 0 (V0 m) [hostOps1] c main_v4
    = shapeCast S6x256x18944 (codesArr m c) shapeCasts_S1536x18944_S6x256x18944 := by
  rw [← final5 m c, ← after_arr m c 5]
  unfold Pipeline.afterTail₀
  generalize Pipeline.withArrays (cfgs 0).spec c (V0 m c) _ = σ
  simp only [List.flatten_cons, List.flatten_nil, List.append_nil]
  after_results
  rfl

theorem res6 (c : Dev nD) : Pipeline.afterTail₀ cfgs (dats m) 0 (V0 m) [hostOps1] c main_v6
    = shapeCast S6x8x592 (extractStridedSlice S48x592 ![0, 0] (accS m c 37) slices_S48x640_S48x592_0_0) shapeCasts_S48x592_S6x8x592 := by
  rw [← final6 m c, ← after_arr m c 6]
  unfold Pipeline.afterTail₀
  generalize Pipeline.withArrays (cfgs 0).spec c (V0 m c) _ = σ
  simp only [List.flatten_cons, List.flatten_nil, List.append_nil]
  after_results
  rfl

/-- The run: the two results by their arrays, the arguments as launched. -/
theorem run_res : θ_run defs (onTc (τ := τ) (main (F := F))) ⟨m, fun _ => 0, ρ⟩ (fun r => ∀ c : Dev nD,
      r.2.mem ((c.tc : Thread nD τ).loc main_v4) = shapeCast S6x256x18944 (codesArr m c) shapeCasts_S1536x18944_S6x256x18944
      ∧ r.2.mem ((c.tc : Thread nD τ).loc main_v6)
        = shapeCast S6x8x592 (extractStridedSlice S48x592 ![0, 0] (accS m c 37) slices_S48x640_S48x592_0_0) shapeCasts_S48x592_S6x8x592
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hh c => have h := hh.1;
     ⟨((h c).2 main_v4 (Pipeline.mem_restRefs_of main_v4 (by decide) (by decide))).trans (res4 m c),
      ((h c).2 main_v6 (Pipeline.mem_restRefs_of main_v6 (by decide) (by decide))).trans (res6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩) (run_all m ρ)

end Cert.KernelIdeal.Hand

end
-- ==== Proof.Spec.lean ====
/- The result as a formula in the five arrays, over the ideal numbers, and the reference's arrays read as it. -/
module

public import proofs.«01_k».proof.Proof.Gen.ReferenceIdeal.Value
public import Idealize.ShloMosaic.Lib.Pointwise

@[expose] public section

noncomputable section

namespace Cert.Spec

open Idealize.ShloMosaic Cert.ReferenceIdeal Cert.ReferenceIdeal.Gen

variable (a0 : Vec Ideal S6x256x3584 .i8) (a1 : Vec Ideal S6x8x112 .f32) (a2 : Vec Ideal S18944x3584 .i8)
  (a3 : Vec Ideal S592x112 .f32) (a4 : Vec Ideal S18944 .f32)

/-- The block of 32 that a position lies in. -/
abbrev blk {n k : ℕ} (h : n = 32 * k) (i : Fin n) : Fin k := ⟨i.val / 32, by omega⟩

/-- `x`, dequantised. -/
def dqX (g : Fin 6) (r : Fin 256) (k : Fin 3584) : EReal :=
  FloatOps.sitofp (F := Ideal) .bf16 (a0 (ix3 g r k)) * a1 (ix3 g (blk (k := 8) rfl r) (blk (k := 112) rfl k))
/-- `w`, dequantised. -/
def dqW (n : Fin 18944) (k : Fin 3584) : EReal :=
  FloatOps.sitofp (F := Ideal) .bf16 (a2 (ix2 n k)) * a3 (ix2 (blk (k := 592) rfl n) (blk (k := 112) rfl k))
/-- The activation. -/
def gelu (y : EReal) : EReal :=
  y * (Ideal.ofBits .f32 0x3F000000#32 * (1 + Ideal.tanh (Ideal.ofBits .f32 0x3F4C422A#32 * (y + Ideal.ofBits .f32 0x3D372713#32 * (y * (y * y))))))
/-- The activated product. -/
def Z (g : Fin 6) (r : Fin 256) (n : Fin 18944) : EReal :=
  gelu ((∑ k : Fin 3584, dqX a0 a1 g r k * dqW a2 a3 n k) + a4 (ix1 n))
/-- The scale that goes with a largest magnitude. -/
def scale (a : EReal) : EReal := Scalar.select (FloatOps.cmpf (F := Ideal) (φ := .f32) .oeq a 0) 1 (Ideal.div a (Ideal.ofBits .f32 0x42FE0000#32))
/-- The code of a value under a scale. -/
def code (z s : EReal) : BitVec 8 :=
  FloatOps.fptosi (F := Ideal) (φ := .f32) 8 (min (Ideal.ofBits .f32 0x42FE0000#32) (max (Ideal.ofBits .f32 0xC2FE0000#32) (Ideal.liftRound Ideal.roundHalfEven (Ideal.div z s))))

/-- Row `32 h + i` is in block `h`. -/
theorem blk_mk {n k : ℕ} (hn : n = 32 * k) (h : Fin k) (i : Fin 32) (hl : h.val * 32 + i.val < n) : blk hn ⟨h.val * 32 + i.val, hl⟩ = h := by
  apply Fin.ext; show (h.val * 32 + i.val) / 32 = h.val; omega

/-- The reference's activated product at an index. -/
theorem pay3_apply (g : Fin 6) (h : Fin 8) (i : Fin 32) (b : Fin 592) (j : Fin 32) :
    k0_pay3 a0 a1 a2 a3 a4 (ix5 g h i b j)
      = Z a0 a1 a2 a3 a4 g ⟨h.val * 32 + i.val, by omega⟩ ⟨b.val * 32 + j.val, by omega⟩ := by
  pointwise [k0_pay3]
  unfold Z dqX dqW
  simp only [blk_mk]
  rfl

/-- The largest magnitude of a block. -/
def amax (g : Fin 6) (h : Fin 8) (b : Fin 592) : EReal := k0_pay4 a0 a1 a2 a3 a4 (ix3 g h b)

theorem neutral_eq : Ideal.ofBits .f32 0xFF800000#32 = ⊥ := by
  simp +decide [Ideal.ofBits, Ideal.ieee]

/-- An upper bound of the maximum over the axes 2 and 4. -/
theorem fold_r5_a24_le {n0 n1 n2 n3 n4 : ℕ} (h : (⟨5, ![n0, n1, n2, n3, n4]⟩ : Shape).Reduces [2, 4] ⟨3, ![n0, n1, n3]⟩)
    (v : (⟨5, ![n0, n1, n2, n3, n4]⟩ : Shape).Idx → EReal) (g : Fin n0) (r : Fin n1) (b : Fin n3) (c : EReal) :
    (Finset.univ.filter fun i => h.drop i = ix3 g r b).fold max ⊥ v ≤ c ↔ ∀ i j, v (ix5 g r i b j) ≤ c := by
  rw [Finset.fold_max_le]
  simp only [Finset.mem_filter, Finset.mem_univ, true_and, bot_le]
  constructor
  · intro h2 i j
    refine h2 (ix5 g r i b j) (funext fun a => Fin.ext ?_)
    match a with
    | ⟨0, _⟩ => rfl
    | ⟨1, _⟩ => rfl
    | ⟨2, _⟩ => rfl
  · intro h1 x hx
    have e : x = ix5 g r (x 2) b (x 4) := by
      funext a; apply Fin.ext
      match a with
      | ⟨0, _⟩ => exact congrArg Fin.val (congrFun hx 0)
      | ⟨1, _⟩ => exact congrArg Fin.val (congrFun hx 1)
      | ⟨2, _⟩ => rfl
      | ⟨3, _⟩ => exact congrArg Fin.val (congrFun hx 2)
      | ⟨4, _⟩ => rfl
    rw [e]; exact h1 _ _

/-- An upper bound of a printed maximum over the axes 2 and 4. -/
theorem max_r5_a24_le {n0 n1 n2 n3 n4 : ℕ} (h : (⟨5, ![n0, n1, n2, n3, n4]⟩ : Shape).Reduces [2, 4] ⟨3, ![n0, n1, n3]⟩)
    (v : FVec Ideal (⟨5, ![n0, n1, n2, n3, n4]⟩ : Shape) .f32) (hφ hacc) (g : Fin n0) (r : Fin n1) (b : Fin n3) (c : EReal) :
    multiReduction .maximumf [2, 4] ⟨3, ![n0, n1, n3]⟩ v 0xFF800000#32 h hφ hacc (ix3 g r b) ≤ c ↔ ∀ i j, v (ix5 g r i b j) ≤ c := by
  have e := multiReduction_maximumf_eq_fold (F := Ideal) (φ := .f32) v 0xFF800000#32 h hφ hacc (ix3 g r b)
  rw [e, Ideal.ofBits_def, neutral_eq]
  exact fold_r5_a24_le h v g r b c

theorem amax_le (g : Fin 6) (h : Fin 8) (b : Fin 592) (c : EReal) : amax a0 a1 a2 a3 a4 g h b ≤ c ↔
    ∀ (i j : Fin 32), max (Z a0 a1 a2 a3 a4 g ⟨h.val * 32 + i.val, by omega⟩ ⟨b.val * 32 + j.val, by omega⟩)
      (-Z a0 a1 a2 a3 a4 g ⟨h.val * 32 + i.val, by omega⟩ ⟨b.val * 32 + j.val, by omega⟩) ≤ c := by
  simp only [← pay3_apply]
  unfold amax k0_pay4
  exact max_r5_a24_le reduces_S6x8x32x592x32_S6x8x592 (absf (k0_pay3 a0 a1 a2 a3 a4)) (.inl rfl) rfl g h b c

/-- A whole load is the array. -/
theorem pay6_eq : k0_pay6 a0 a1 a2 a3 a4 = k0_pay4 a0 a1 a2 a3 a4 := by
  unfold k0_pay6
  rw [View.ld_unit_zero (S := S6x256x3584) (by decide) _ a0, View.ld_unit_zero (S := S6x8x112) (by decide) _ a1, View.ld_unit_zero (S := S18944x3584) (by decide) _ a2, View.ld_unit_zero (S := S592x112) (by decide) _ a3, View.ld_unit_zero (S := S18944) (by decide) _ a4]
theorem pay7_eq : k0_pay7 a0 a1 a2 a3 a4 = k0_pay5 a0 a1 a2 a3 a4 := by
  unfold k0_pay7
  rw [View.ld_unit_zero (S := S6x256x3584) (by decide) _ a0, View.ld_unit_zero (S := S6x8x112) (by decide) _ a1, View.ld_unit_zero (S := S18944x3584) (by decide) _ a2, View.ld_unit_zero (S := S592x112) (by decide) _ a3, View.ld_unit_zero (S := S18944) (by decide) _ a4]

/-- The reference's scales, all of them. -/
def scales (v38 : FVec Ideal S6x8x592 .f32) : FVec Ideal S6x8x592 .f32 :=
  k0_pay1 v38 (cmpf .oeq v38 (broadcast S6x8x592 (Scalar.ofBits .f32 0x00000000#32))) (Scalar.ofBits .f32 0x42FE0000#32)

theorem scales_apply (v38 : FVec Ideal S6x8x592 .f32) (x) : scales v38 x = scale (v38 x) := by
  have h1 : (Scalar.ofBits (F := Ideal) .f32 0x3F800000#32) = (1 : EReal) := Ideal.ofBits_one_f32
  have h0 : (Scalar.ofBits (F := Ideal) .f32 0x00000000#32) = (0 : EReal) := Ideal.ofBits_zero_f32
  unfold scales k0_pay1 scale
  rw [h1, h0]
  rfl

theorem G6_eq : Cert.ReferenceIdeal.Value.G6 a0 a1 a2 a3 a4 = scales (k0_pay4 a0 a1 a2 a3 a4) := by
  unfold Cert.ReferenceIdeal.Value.G6
  rw [pay6_eq, pay7_eq]; rfl

theorem G6_apply (g : Fin 6) (h : Fin 8) (b : Fin 592) :
    Cert.ReferenceIdeal.Value.G6 a0 a1 a2 a3 a4 (ix3 g h b) = scale (amax a0 a1 a2 a3 a4 g h b) := by
  rw [G6_eq, scales_apply]; rfl

/-- The reference's codes of given values under given scales. -/
def codes (v36 : FVec Ideal S6x8x32x592x32 .f32) (sc : FVec Ideal S6x8x592 .f32) : IVec S6x256x18944 8 :=
  shapeCast S6x256x18944 (fptosi 8 (minimumf (broadcast S6x8x32x592x32 (Scalar.ofBits .f32 0x42FE0000#32))
    (maximumf (broadcast S6x8x32x592x32 (Scalar.ofBits .f32 0xC2FE0000#32)) (roundeven (divf v36
      (broadcastTo S6x8x32x592x32 (shapeCast S6x8x1x592x1 sc shapeCasts_S6x8x592_S6x8x1x592x1) broadcasts_S6x8x1x592x1_S6x8x32x592x32))))))
    shapeCasts_S6x8x32x592x32_S6x256x18944

theorem G5_eq : Cert.ReferenceIdeal.Value.G5 a0 a1 a2 a3 a4 = codes (k0_pay3 a0 a1 a2 a3 a4) (scales (k0_pay4 a0 a1 a2 a3 a4)) := by
  unfold Cert.ReferenceIdeal.Value.G5
  rw [pay6_eq, pay7_eq]; rfl

theorem codes_apply (v36 : FVec Ideal S6x8x32x592x32 .f32) (sc : FVec Ideal S6x8x592 .f32) (g : Fin 6) (h : Fin 8) (i : Fin 32) (b : Fin 592) (j : Fin 32) :
    codes v36 sc (ix3 g ⟨h.val * 32 + i.val, by omega⟩ ⟨b.val * 32 + j.val, by omega⟩) = code (v36 (ix5 g h i b j)) (sc (ix3 g h b)) := by
  have e : broadcastTo S6x8x32x592x32 (shapeCast S6x8x1x592x1 sc shapeCasts_S6x8x592_S6x8x1x592x1) broadcasts_S6x8x1x592x1_S6x8x32x592x32 (ix5 g h i b j)
      = sc (ix3 g h b) := by
    pointwise
  unfold codes
  refine (shapeCast_apply _ _ _ (ix5 g h i b j) ?_).trans ?_
  · rw [rowMajor_val5 (ix5 g h i b j) 4849664 606208 18944 32 rfl rfl rfl rfl, rowMajor_val3 (ix3 g ⟨h.val * 32 + i.val, by omega⟩ ⟨b.val * 32 + j.val, by omega⟩) 4849664 18944 rfl rfl]
    show g.val * 4849664 + h.val * 606208 + i.val * 18944 + b.val * 32 + j.val = g.val * 4849664 + (h.val * 32 + i.val) * 18944 + (b.val * 32 + j.val)
    omega
  · rw [← e]
    rfl

/-- The reference's codes. -/
theorem G5_apply (g : Fin 6) (h : Fin 8) (i : Fin 32) (b : Fin 592) (j : Fin 32) :
    Cert.ReferenceIdeal.Value.G5 a0 a1 a2 a3 a4 (ix3 g ⟨h.val * 32 + i.val, by omega⟩ ⟨b.val * 32 + j.val, by omega⟩)
      = code (Z a0 a1 a2 a3 a4 g ⟨h.val * 32 + i.val, by omega⟩ ⟨b.val * 32 + j.val, by omega⟩) (scale (amax a0 a1 a2 a3 a4 g h b)) := by
  rw [G5_eq, codes_apply, scales_apply, pay3_apply]; rfl

end Cert.Spec

end
-- ==== Proof.Vals.lean ====
/- The kernel's pure values over the ideal numbers, read as the formula of the result. -/
module

public import proofs.«01_k».proof.Proof.Lanes
public import proofs.«01_k».proof.Proof.Spec

@[expose] public section

noncomputable section

namespace Cert.KernelIdeal.Roll

open Idealize.ShloMosaic
open Shapes1.Facts₀ Shapes2.Facts₀ Shapes3.Facts₀ Shapes4.Facts₀ Shapes5.Facts₀

variable [Facts]

/-! ## The activated product -/

theorem zM_apply (xb : Vec Ideal S256x3584 .bf16) (wb : Vec Ideal S512x3584 .bf16) (b : Vec Ideal S1x1x512 .f32) (r : Fin 256) (n : Fin 512) :
    zM xb wb b (ix2 r n) = Spec.gelu ((∑ k : Fin 3584, xb (ix2 r k) * wb (ix2 n k)) + b (ix3 0 0 n)) := by
  unfold Spec.gelu
  pointwise [zM]
  try simp

theorem valZ_apply (xb : Vec Ideal S1536x3584 .bf16) (wb : Vec Ideal S512x3584 .bf16) (b : Vec Ideal S1x1x512 .f32) (m : ℕ) (hm : m < 6)
    (r : Fin 256) (n : Fin 512) :
    valZ xb wb b m hm (ix2 r n) = Spec.gelu ((∑ k : Fin 3584, xb (ix2 ⟨256 * m + r.val, by omega⟩ k) * wb (ix2 n k)) + b (ix3 0 0 n)) := by
  have e1 : ∀ k : Fin 3584, (VecWindow.window xb ![256 * m, 0] S256x3584.size (inbXB hm) : Vec Ideal S256x3584 .bf16) (ix2 r k) = xb (ix2 ⟨256 * m + r.val, by omega⟩ k) := fun k =>
    window_apply xb _ _ _ _ _ (Fin.forall_fin_two.2 ⟨rfl, (Nat.zero_add _).symm⟩)
  have e2 : ∀ k : Fin 3584, (VecWindow.window wb ![0, 0] S512x3584.size inb_S512x3584_S512x3584_0_0 : Vec Ideal S512x3584 .bf16) (ix2 n k) = wb (ix2 n k) := fun k =>
    window_apply wb _ _ _ _ _ (Fin.forall_fin_two.2 ⟨(Nat.zero_add _).symm, (Nat.zero_add _).symm⟩)
  have e3 : (VecWindow.window b ![0, 0, 0] S1x1x512.size inb_S1x1x512_S1x1x512_0_0_0 : Vec Ideal S1x1x512 .f32) (ix3 0 0 n) = b (ix3 0 0 n) :=
    window_apply b _ _ _ _ _ (by
      intro a
      match a with
      | ⟨0, _⟩ => rfl
      | ⟨1, _⟩ => rfl
      | ⟨2, _⟩ => exact (Nat.zero_add _).symm)
  unfold valZ
  rw [zM_apply]
  simp only [e1, e2, e3]

/-! ## The largest magnitudes -/

theorem rowMax_le (z : FVec Ideal S256x512 .f32) (h : Fin 8) (k : Fin 512) (c : EReal) :
    rowMax z (ix2 h k) ≤ c ↔ ∀ i : Fin 32, max (z (ix2 ⟨h.val * 32 + i.val, by omega⟩ k)) (-z (ix2 ⟨h.val * 32 + i.val, by omega⟩ k)) ≤ c := by
  have hv : ∀ i : Fin 32, shapeCast S8x32x512 (absf z) shapeCasts_S256x512_S8x32x512 (ix3 h i k)
      = max (z (ix2 ⟨h.val * 32 + i.val, by omega⟩ k)) (-z (ix2 ⟨h.val * 32 + i.val, by omega⟩ k)) := fun i => by
    refine (shapeCast_apply _ _ _ (ix2 ⟨h.val * 32 + i.val, by omega⟩ k) ?_).trans rfl
    rw [rowMajor_val2 (ix2 ⟨h.val * 32 + i.val, by omega⟩ k) 512 rfl, rowMajor_val3 (ix3 h i k) 16384 512 rfl rfl]
    show (h.val * 32 + i.val) * 512 + k.val = h.val * 16384 + i.val * 512 + k.val
    omega
  unfold rowMax
  have e := multiReduction_maximumf_eq_fold (F := Ideal) (φ := .f32) (shapeCast S8x32x512 (absf z) shapeCasts_S256x512_S8x32x512) 0xFF800000#32
    reduces_S8x32x512_S8x512 (.inl rfl) rfl (ix2 h k)
  rw [e, Ideal.ofBits_def, Spec.neutral_eq, Shape.Reduces.fold_fiber_r3_a1]
  refine (Finset.fold_max_le (s := Finset.univ) (b := (⊥ : EReal)) c).trans ?_
  simp only [bot_le, true_and, Finset.mem_univ, forall_true_left, ← hv]
  exact Iff.rfl

theorem lane_half (k : ℕ) (hk : k < 5) : ∀ l < 128, l ^^^ 2 ^ k < 128 ∧ (l ^^^ 2 ^ k) / 2 ^ k = if l / 2 ^ k % 2 = 0 then l / 2 ^ k + 1 else l / 2 ^ k - 1 := by
  revert k; decide +kernel

/-- Each exchange doubles the run of lanes that the maximum is over. -/
theorem bfly_le (k : ℕ) (hk : k < 5) (w v : FVec Ideal S8x128 .f32) (h : Fin 8) (c : EReal)
    (ih : ∀ l : Fin 128, w (ix2 h l) ≤ c ↔ ∀ l' : Fin 128, l'.val / 2 ^ k = l.val / 2 ^ k → v (ix2 h l') ≤ c) (l : Fin 128) :
    bfly (BitVec.ofNat 32 (2 ^ k)) w (ix2 h l) ≤ c ↔ ∀ l' : Fin 128, l'.val / 2 ^ (k + 1) = l.val / 2 ^ (k + 1) → v (ix2 h l') ≤ c := by
  obtain ⟨hx, hy⟩ := lane_half k hk l.val l.2
  rw [bfly_apply k hk w h l _ hx rfl]
  refine (max_le_iff (a := w (ix2 h l))).trans ?_
  rw [ih, ih]
  have key : ∀ l' : Fin 128, l'.val / 2 ^ (k + 1) = l.val / 2 ^ (k + 1) ↔ (l'.val / 2 ^ k = l.val / 2 ^ k ∨ l'.val / 2 ^ k = (l.val ^^^ 2 ^ k) / 2 ^ k) := fun l' => by
    rw [hy, pow_succ, ← Nat.div_div_eq_div_mul, ← Nat.div_div_eq_div_mul]
    generalize l.val / 2 ^ k = a
    generalize l'.val / 2 ^ k = b
    split_ifs <;> omega
  constructor
  · rintro ⟨h1, h2⟩ l' e
    rcases (key l').1 e with e | e
    · exact h1 l' e
    · exact h2 l' e
  · exact fun h1 => ⟨fun l' e => h1 l' ((key l').2 (.inl e)), fun l' e => h1 l' ((key l').2 (.inr e))⟩

theorem segMax_le (v : FVec Ideal S8x128 .f32) (h : Fin 8) (l : Fin 128) (c : EReal) :
    segMax v (ix2 h l) ≤ c ↔ ∀ l' : Fin 128, l'.val / 32 = l.val / 32 → v (ix2 h l') ≤ c := by
  have h0 : ∀ l : Fin 128, v (ix2 h l) ≤ c ↔ ∀ l' : Fin 128, l'.val / 2 ^ 0 = l.val / 2 ^ 0 → v (ix2 h l') ≤ c := fun l =>
    ⟨fun a l' e => by rw [pow_zero, Nat.div_one, Nat.div_one] at e; rw [Fin.ext e]; exact a, fun a => a l rfl⟩
  have h1 := bfly_le 0 (by decide) _ v h c h0
  have h2 := bfly_le 1 (by decide) _ v h c h1
  have h3 := bfly_le 2 (by decide) _ v h c h2
  have h4 := bfly_le 3 (by decide) _ v h c h3
  exact bfly_le 4 (by decide) _ v h c h4 l

/-- The largest magnitude of a block of 32 by 32 in row tile `z`, whose lanes are `128 t ..`, read at any lane of the block. -/
theorem blockMax_le (z : FVec Ideal S256x512 .f32) (t : ℕ) (ht : t < 4) (h : Fin 8) (l : Fin 128) (c : EReal) :
    segMax (extractStridedSlice S8x128 ![0, 128 * t] (rowMax z) (sliceA ht)) (ix2 h l) ≤ c
      ↔ ∀ i j : Fin 32, max (z (ix2 ⟨h.val * 32 + i.val, by omega⟩ ⟨128 * t + l.val / 32 * 32 + j.val, by omega⟩))
        (-z (ix2 ⟨h.val * 32 + i.val, by omega⟩ ⟨128 * t + l.val / 32 * 32 + j.val, by omega⟩)) ≤ c := by
  have e : ∀ (v : FVec Ideal S8x512 .f32) (l' : Fin 128), extractStridedSlice S8x128 ![0, 128 * t] v (sliceA ht) (ix2 h l') = v (ix2 h ⟨128 * t + l'.val, by omega⟩) := by
    intro v l'; pointwise
  rw [segMax_le]
  simp only [e, rowMax_le]
  constructor
  · intro a i j
    have := a ⟨l.val / 32 * 32 + j.val, by omega⟩ (by show (l.val / 32 * 32 + j.val) / 32 = l.val / 32; omega) i
    simpa only [Nat.add_assoc] using this
  · intro a l' hl i
    have := a i ⟨l'.val % 32, by omega⟩
    have e : (⟨128 * t + l.val / 32 * 32 + l'.val % 32, by omega⟩ : Fin 512) = ⟨128 * t + l'.val, by omega⟩ := Fin.ext (by
      show 128 * t + l.val / 32 * 32 + l'.val % 32 = 128 * t + l'.val; omega)
    rw [e] at this
    exact this

theorem scaleOf_apply (a : FVec Ideal S8x128 .f32) (x) : scaleOf a x = Spec.scale (a x) := by
  have h1 : (Scalar.ofBits (F := Ideal) .f32 0x3F800000#32) = (1 : EReal) := Ideal.ofBits_one_f32
  have h0 : (Scalar.ofBits (F := Ideal) .f32 0x00000000#32) = (0 : EReal) := Ideal.ofBits_zero_f32
  unfold scaleOf Spec.scale
  rw [h1, h0]
  rfl

theorem codesOf_apply (z : FVec Ideal S256x512 .f32) (sc : FVec Ideal S8x128 .f32) (t : ℕ) (ht : t < 4) (rb : ℕ) (hr : rb < 8) (i : Fin 32) (l : Fin 128) :
    codesOf z sc t ht rb hr (ix2 i l) = Spec.code (z (ix2 ⟨32 * rb + i.val, by omega⟩ ⟨128 * t + l.val, by omega⟩)) (sc (ix2 ⟨rb, hr⟩ l)) := by
  have e1 : extractStridedSlice S32x128 ![32 * rb, 128 * t] z (sliceZ hr ht) (ix2 i l) = z (ix2 ⟨32 * rb + i.val, by omega⟩ ⟨128 * t + l.val, by omega⟩) := by
    pointwise
  have e2 : broadcastTo S32x128 (extractStridedSlice S1x128 ![rb, 0] sc (sliceS hr)) broadcasts_S1x128_S32x128 (ix2 i l) = sc (ix2 ⟨rb, hr⟩ l) := by
    pointwise
  rw [← e1, ← e2]
  rfl

end Cert.KernelIdeal.Roll

end
-- ==== Proof.Value.lean ====
/- The kernel's results are the reference's, over the ideal numbers. -/
module

public import proofs.«01_k».proof.Defs
public import proofs.«01_k».proof.Proof.Arrays
public import proofs.«01_k».proof.Proof.Vals

@[expose] public section

noncomputable section

namespace Cert.KernelIdeal.Hand

open Cert.KernelIdeal Cert.KernelIdeal.Gen Cert.KernelIdeal.Roll
open Idealize.ShloMosaic Idealize.ShloMosaic.TcCoe Idealize.SL.Sem

variable (m : (ℓ : Loc nD τ sig) → Buf (Elt Ideal) ℓ) (c : Dev nD)

/-- The five arguments. -/
abbrev arg0 : Vec Ideal S6x256x3584 .i8 := m ((c : Thread nD τ).loc main_arg0)
abbrev arg1 : Vec Ideal S6x8x112 .f32 := m ((c : Thread nD τ).loc main_arg1)
abbrev arg2 : Vec Ideal S18944x3584 .i8 := m ((c : Thread nD τ).loc main_arg2)
abbrev arg3 : Vec Ideal S592x112 .f32 := m ((c : Thread nD τ).loc main_arg3)
abbrev arg4 : Vec Ideal S18944 .f32 := m ((c : Thread nD τ).loc main_arg4)

theorem xbAll_apply (g : ℕ) (hg : g < 6) (r : Fin 256) (k : Fin 3584) :
    xbAll m c (ix2 ⟨256 * g + r.val, by omega⟩ k) = Spec.dqX (arg0 m c) (arg1 m c) ⟨g, hg⟩ r k := by
  unfold xbAll
  rw [valX_apply]
  refine congrArg₂ (fun a b : EReal => a * b) (congrArg (FloatOps.sitofp (F := Ideal) .bf16) ?_) ?_
  · rw [iblk0_apply]
    exact congrArg (arg0 m c) (congrArg₂ (fun a b => ix3 a b k) (Fin.ext (by show (256 * g + r.val) / 256 = g; omega)) (Fin.ext (by show (256 * g + r.val) % 256 = r.val; omega)))
  · refine (iblk1_apply m c t0 _ _).trans ?_
    exact congrArg (arg1 m c) (congrArg₂ (fun a b => ix3 a b _) (Fin.ext (by show (256 * g + r.val) / 32 / 8 = g; omega)) (Fin.ext (by show (256 * g + r.val) / 32 % 8 = r.val / 32; omega)))

theorem wAt_apply (t : Fin cfg0.N) (n : Fin 512) (k : Fin 3584) :
    valW (iblk m c 2 t) (iblk m c 3 t) (ix2 n k) = Spec.dqW (arg2 m c) (arg3 m c) ⟨t.val * 512 + n.val, by have := lt37 t; omega⟩ k := by
  rw [valW_apply]
  refine congrArg₂ (fun a b : EReal => a * b) (congrArg (FloatOps.sitofp (F := Ideal) .bf16) (iblk2_apply m c t n k)) ?_
  refine (iblk3_apply m c t _ _).trans ?_
  exact congrArg (arg3 m c) (congrArg (fun a => ix2 a _) (Fin.ext (by show t.val * 16 + n.val / 32 = (t.val * 512 + n.val) / 32; omega)))

/-- The activated product over the five arguments. -/
abbrev Zr : Fin 6 → Fin 256 → Fin 18944 → EReal := Spec.Z (arg0 m c) (arg1 m c) (arg2 m c) (arg3 m c) (arg4 m c)
/-- The largest magnitudes over the five arguments. -/
abbrev amaxr : Fin 6 → Fin 8 → Fin 592 → EReal := Spec.amax (arg0 m c) (arg1 m c) (arg2 m c) (arg3 m c) (arg4 m c)

theorem zAt_apply (t : Fin cfg0.N) (g : ℕ) (hg : g < 6) (r : Fin 256) (n : Fin 512) :
    zAt m c t g hg (ix2 r n) = Zr m c ⟨g, hg⟩ r ⟨t.val * 512 + n.val, by have := lt37 t; omega⟩ := by
  unfold zAt
  rw [valZ_apply]
  simp only [xbAll_apply m c g hg, wAt_apply]
  rw [iblk4_apply]
  rfl

theorem scT_apply (t : Fin cfg0.N) (g : ℕ) (hg : g < 6) (q : ℕ) (hq : q < 4) (h : Fin 8) (l : Fin 128) (b : Fin 592)
    (hb : b.val = t.val * 16 + q * 4 + l.val / 32) :
    scT (rowMax (zAt m c t g hg)) q hq (ix2 h l) = Spec.scale (amaxr m c ⟨g, hg⟩ h b) := by
  unfold scT
  rw [scaleOf_apply]
  refine congrArg Spec.scale (eq_of_forall_ge_iff fun x => ?_)
  rw [blockMax_le _ _ hq, Spec.amax_le]
  refine forall_congr' fun i => forall_congr' fun j => ?_
  rw [zAt_apply]
  have e : ∀ (p : Fin 18944), p.val = b.val * 32 + j.val → (max (Zr m c ⟨g, hg⟩ ⟨h.val * 32 + i.val, by omega⟩ p) (-Zr m c ⟨g, hg⟩ ⟨h.val * 32 + i.val, by omega⟩ p) ≤ x ↔
      max (Zr m c ⟨g, hg⟩ ⟨h.val * 32 + i.val, by omega⟩ ⟨b.val * 32 + j.val, by omega⟩) (-Zr m c ⟨g, hg⟩ ⟨h.val * 32 + i.val, by omega⟩ ⟨b.val * 32 + j.val, by omega⟩) ≤ x) := by
    intro p hp
    have : p = ⟨b.val * 32 + j.val, by omega⟩ := Fin.ext hp
    rw [this]
  exact e _ (by show t.val * 512 + (128 * q + l.val / 32 * 32 + j.val) = b.val * 32 + j.val; omega)

/-- The codes' array at an index. -/
theorem codesArr_apply (g : Fin 6) (h : Fin 8) (i : Fin 32) (b : Fin 592) (j : Fin 32) :
    codesArr m c (ix2 ⟨g.val * 256 + (h.val * 32 + i.val), by omega⟩ ⟨b.val * 32 + j.val, by omega⟩)
      = Spec.code (Zr m c g ⟨h.val * 32 + i.val, by omega⟩ ⟨b.val * 32 + j.val, by omega⟩) (Spec.scale (amaxr m c g h b)) := by
  have ht : b.val / 16 < 37 := by omega
  have e : (⟨b.val * 32 + j.val, by omega⟩ : Fin 18944) = ⟨(⟨b.val / 16, ht⟩ : Fin cfg0.N).val * 512 + (⟨b.val % 16 * 32 + j.val, by omega⟩ : Fin 512).val, by
      show b.val / 16 * 512 + (b.val % 16 * 32 + j.val) < 18944; omega⟩ := Fin.ext (by
    show b.val * 32 + j.val = b.val / 16 * 512 + (b.val % 16 * 32 + j.val); omega)
  rw [e, codesArr_block, valC_apply, codesOf_apply]
  have key : ∀ (g' : ℕ) (hg' : g' < 6), g' = g.val → ∀ (h' : Fin 8), h' = h → ∀ (r : Fin 256), r.val = h.val * 32 + i.val → ∀ (q : ℕ) (hq : q < 4) (n : Fin 512) (l : Fin 128),
      n.val = b.val % 16 * 32 + j.val → b.val % 16 = q * 4 + l.val / 32 →
      Spec.code (zAt m c ⟨b.val / 16, ht⟩ g' hg' (ix2 r n)) (scT (rowMax (zAt m c ⟨b.val / 16, ht⟩ g' hg')) q hq (ix2 h' l))
        = Spec.code (Zr m c g ⟨h.val * 32 + i.val, by omega⟩ ⟨b.val * 32 + j.val, by omega⟩) (Spec.scale (amaxr m c g h b)) := by
    intro g' hg' e1 h' e2 r e3 q hq n l e4 e5
    subst e1 e2
    have e6 : r = ⟨h'.val * 32 + i.val, by omega⟩ := Fin.ext e3
    have e7 : n = ⟨b.val % 16 * 32 + j.val, by omega⟩ := Fin.ext e4
    rw [e6, e7, zAt_apply, scT_apply m c _ _ hg' q hq h' l b (by show b.val = b.val / 16 * 16 + q * 4 + l.val / 32; omega), ← e]
  rw [← e]
  refine key _ _ ?_ _ ?_ _ ?_ _ _ _ _ ?_ ?_
  · show (g.val * 256 + (h.val * 32 + i.val)) / 32 / 8 = g.val; omega
  · exact Fin.ext (by show (g.val * 256 + (h.val * 32 + i.val)) / 32 % 8 = h.val; omega)
  · show 32 * ((g.val * 256 + (h.val * 32 + i.val)) / 32 % 8) + (g.val * 256 + (h.val * 32 + i.val)) % 32 = h.val * 32 + i.val; omega
  · show 128 * ((b.val % 16 * 32 + j.val) / 128) + (b.val % 16 * 32 + j.val) % 128 = b.val % 16 * 32 + j.val; omega
  · show b.val % 16 = (b.val % 16 * 32 + j.val) / 128 * 4 + (b.val % 16 * 32 + j.val) % 128 / 32; omega

/-- The scales' array at an index. -/
theorem accS_scale (g : Fin 6) (h : Fin 8) (b : Fin 592) :
    accS m c 37 (ix2 ⟨g.val * 8 + h.val, by omega⟩ ⟨b.val, by omega⟩) = Spec.scale (amaxr m c g h b) := by
  rw [accS_apply m c _ _ 37 le_rfl (by show b.val / 16 < 37; omega)]
  unfold scAt
  rw [srowOf_apply]
  have key : ∀ (g' : ℕ) (hg' : g' < 6), g' = g.val → ∀ (h' : Fin 8), h' = h → ∀ (t : Fin cfg0.N) (q : ℕ) (hq : q < 4) (l : Fin 128),
      b.val = t.val * 16 + q * 4 + l.val / 32 → scT (rowMax (zAt m c t g' hg')) q hq (ix2 h' l) = Spec.scale (amaxr m c g h b) := by
    intro g' hg' e1 h' e2 t q hq l e3
    subst e1 e2
    exact scT_apply m c t _ hg' q hq h' l b e3
  refine key _ _ ?_ _ ?_ _ _ _ _ ?_
  · show (g.val * 8 + h.val) / 8 = g.val; omega
  · exact Fin.ext (by show (g.val * 8 + h.val) % 8 = h.val; omega)
  · show b.val = b.val / 16 * 16 + b.val % 128 / 4 % 4 * 4 + 32 * (b.val % 128 % 4) / 32; omega

/-- The codes are the reference's. -/
theorem codes_eq : shapeCast S6x256x18944 (codesArr m c) shapeCasts_S1536x18944_S6x256x18944
    = Cert.ReferenceIdeal.Value.G5 (arg0 m c) (arg1 m c) (arg2 m c) (arg3 m c) (arg4 m c) := by
  funext x
  obtain ⟨g, r, n, rfl⟩ : ∃ g r n, x = (ix3 g r n : S6x256x18944.Idx) := ⟨_, _, _, eq_ix3 x⟩
  obtain ⟨h, i, rfl⟩ : ∃ (h : Fin 8) (i : Fin 32), r = ⟨h.val * 32 + i.val, by omega⟩ :=
    ⟨⟨r.val / 32, by omega⟩, ⟨r.val % 32, by omega⟩, Fin.ext (by show r.val = r.val / 32 * 32 + r.val % 32; omega)⟩
  obtain ⟨b, j, rfl⟩ : ∃ (b : Fin 592) (j : Fin 32), n = ⟨b.val * 32 + j.val, by omega⟩ :=
    ⟨⟨n.val / 32, by omega⟩, ⟨n.val % 32, by omega⟩, Fin.ext (by show n.val = n.val / 32 * 32 + n.val % 32; omega)⟩
  refine Eq.trans ?_ (Spec.G5_apply (arg0 m c) (arg1 m c) (arg2 m c) (arg3 m c) (arg4 m c) g h i b j).symm
  refine (shapeCast_apply _ _ _ (ix2 (⟨g.val * 256 + (h.val * 32 + i.val), by omega⟩ : Fin 1536) (⟨b.val * 32 + j.val, by omega⟩ : Fin 18944)) ?_).trans
    (codesArr_apply m c g h i b j)
  refine (rowMajor_val2 _ 18944 rfl).trans (Eq.trans ?_ (rowMajor_val3 _ 4849664 18944 rfl rfl).symm)
  show (g.val * 256 + (h.val * 32 + i.val)) * 18944 + (b.val * 32 + j.val) = g.val * 4849664 + (h.val * 32 + i.val) * 18944 + (b.val * 32 + j.val)
  omega

/-- The scales are the reference's. -/
theorem scales_eq : shapeCast S6x8x592 (extractStridedSlice S48x592 ![0, 0] (accS m c 37) slices_S48x640_S48x592_0_0) shapeCasts_S48x592_S6x8x592
    = Cert.ReferenceIdeal.Value.G6 (arg0 m c) (arg1 m c) (arg2 m c) (arg3 m c) (arg4 m c) := by
  funext x
  obtain ⟨g, h, b, rfl⟩ : ∃ g h b, x = (ix3 g h b : S6x8x592.Idx) := ⟨_, _, _, eq_ix3 x⟩
  refine Eq.trans ?_ (Spec.G6_apply (arg0 m c) (arg1 m c) (arg2 m c) (arg3 m c) (arg4 m c) g h b).symm
  refine (shapeCast_apply _ _ _ (ix2 (⟨g.val * 8 + h.val, by omega⟩ : Fin 48) b) ?_).trans (Eq.trans ?_ (accS_scale m c g h b))
  · refine (rowMajor_val2 _ 592 rfl).trans (Eq.trans ?_ (rowMajor_val3 _ 4736 592 rfl rfl).symm)
    show (g.val * 8 + h.val) * 592 + b.val = g.val * 4736 + h.val * 592 + b.val
    omega
  · generalize accS m c 37 = S
    pointwise

/-- From memories that agree on the arguments, the kernel and the reference end with equal results. -/
theorem algebraic : Cert.algebraic_KernelIdeal_ReferenceIdeal := by
  intro m g m' g' _ h
  refine ⟨fun c => Cert.ReferenceIdeal.Value.G5 (arg0 m c) (arg1 m c) (arg2 m c) (arg3 m c) (arg4 m c),
    fun c => Cert.ReferenceIdeal.Value.G6 (arg0 m c) (arg1 m c) (arg2 m c) (arg3 m c) (arg4 m c), ?_, ?_⟩
  · exact (θ_run defs _ _).mono (fun r hr c => ⟨(hr c).1.trans (codes_eq m c), (hr c).2.1.trans (scales_eq m c), (hr c).2.2⟩) (run_res m g)
  · refine (θ_run Cert.ReferenceIdeal.defs _ _).mono (fun r hr c => ⟨(hr c).1.trans ?_, (hr c).2.1.trans ?_, (hr c).2.2⟩) (Cert.ReferenceIdeal.Value.run m' g')
    · rw [(h c).1, (h c).2.1, (h c).2.2.1, (h c).2.2.2.1, (h c).2.2.2.2]
    · rw [(h c).1, (h c).2.1, (h c).2.2.1, (h c).2.2.2.1, (h c).2.2.2.2]

end Cert.KernelIdeal.Hand

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Run
public import proofs.«01_k».proof.Proof.Quiet
public import proofs.«01_k».proof.Proof.Value
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
   fun m g _ => (Cert.Kernel.Hand.run_eq _ _).mpr (Cert.KernelIdeal.Hand.quiescent m g),
   fun m g _ => Cert.KernelIdeal.Hand.quiescent m g,
   fun m g _ => Cert.ReferenceIdeal.Gen.frame m g,
   trivial,
   Cert.KernelIdeal.Hand.algebraic⟩

end Cert.Proof

end
